-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x16 : Shape := ⟨2, ![1048576, 16]⟩
abbrev S1048576x32 : Shape := ⟨2, ![1048576, 32]⟩
abbrev S16777216 : Shape := ⟨1, ![16777216]⟩
abbrev S33554432 : Shape := ⟨1, ![33554432]⟩
abbrev S1048576 : Shape := ⟨1, ![1048576]⟩
abbrev S32768 : Shape := ⟨1, ![32768]⟩
abbrev S16x128 : Shape := ⟨2, ![16, 128]⟩
abbrev S2048 : Shape := ⟨1, ![2048]⟩
abbrev S_ : Shape := ⟨0, ![]⟩
abbrev S16 : Shape := ⟨1, ![16]⟩
abbrev S1x16 : Shape := ⟨2, ![1, 16]⟩
abbrev S128 : Shape := ⟨1, ![128]⟩
abbrev S1x128 : Shape := ⟨2, ![1, 128]⟩

abbrev nBuf : Table → Nat
  | .hbm => 5
  | .local .scVector .vmem => 3
  | _ => 0

abbrev bufTy : (tb : Table) → Fin (nBuf tb) → BufTy
  | .hbm, ⟨0, _⟩ => ⟨S1048576x16, .f32⟩
  | .hbm, ⟨1, _⟩ => ⟨S1048576x32, .f32⟩
  | .hbm, ⟨2, _⟩ => ⟨S16777216, .f32⟩
  | .hbm, ⟨3, _⟩ => ⟨S33554432, .f32⟩
  | .hbm, ⟨4, _⟩ => ⟨S1048576, .f32⟩
  | .local .scVector .vmem, ⟨0, _⟩ => ⟨S32768, .f32⟩
  | .local .scVector .vmem, ⟨1, _⟩ => ⟨S16x128, .i32⟩
  | .local .scVector .vmem, ⟨2, _⟩ => ⟨S2048, .f32⟩
  | _, _ => ⟨S1048576x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_0 : BitVec 32 := 0#32
  let c1_i32 : BitVec 32 := 1#32
  let arg9 : BitVec 32 := Scf.iv c0_i32_0 c1_i32 k0_t1
  let c2048_i32 : BitVec 32 := 2048#32
  let v5 : BitVec 32 := Scalar.muli arg9 c2048_i32
  let v6 : BitVec 32 := Scalar.addi v2 v5
  let c16_i32_2 : BitVec 32 := 16#32
  let v7 : BitVec 32 := Scalar.muli v6 c16_i32_2
  ![v7.toNat]
@[reducible] def k0_t2_loop : Scf.Loop 32 :=
  let c0_i32_4 : BitVec 32 := 0#32
  let c16_i32_5 : BitVec 32 := 16#32
  let v8 : BitVec 32 := Scalar.addi c0_i32_4 c16_i32_5
  let c1_i32_6 : BitVec 32 := 1#32
  ⟨c0_i32_4, v8, c1_i32_6⟩

def k0_chk1 (v146 : IVec S16 32) : Prop :=
  (∀ a x, ((![v146] : Fin 1 → IVec S16 32) a x).toNat < S32768.size a)
theorem k0_idx1_inb : ∀ (v146 : IVec S16 32) (k0_hw1 : k0_chk1 v146), ∀ a x, ((![v146] : Fin 1 → IVec S16 32) a x).toNat < S32768.size a := fun v146 k0_hw1 => k0_hw1
def k0_off2 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v162 : Index := Scalar.indexCast arg11
  let c0 : Index := 0#32
  ![v162.toNat, 0]

def k0_chk2 (v170 : IVec S16 32) : Prop :=
  (∀ a x, ((![v170] : Fin 1 → IVec S16 32) a x).toNat < S32768.size a)
theorem k0_idx2_inb : ∀ (v170 : IVec S16 32) (k0_hw2 : k0_chk2 v170), ∀ a x, ((![v170] : Fin 1 → IVec S16 32) a x).toNat < S32768.size a := fun v170 k0_hw2 => k0_hw2
def k0_off3 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v186 : Index := Scalar.indexCast arg11
  let c16 : Index := 16#32
  ![v186.toNat, 16]

def k0_chk3 (v194 : IVec S16 32) : Prop :=
  (∀ a x, ((![v194] : Fin 1 → IVec S16 32) a x).toNat < S32768.size a)
theorem k0_idx3_inb : ∀ (v194 : IVec S16 32) (k0_hw3 : k0_chk3 v194), ∀ a x, ((![v194] : Fin 1 → IVec S16 32) a x).toNat < S32768.size a := fun v194 k0_hw3 => k0_hw3
def k0_off4 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v210 : Index := Scalar.indexCast arg11
  let c32 : Index := 32#32
  ![v210.toNat, 32]

def k0_chk4 (v218 : IVec S16 32) : Prop :=
  (∀ a x, ((![v218] : Fin 1 → IVec S16 32) a x).toNat < S32768.size a)
theorem k0_idx4_inb : ∀ (v218 : IVec S16 32) (k0_hw4 : k0_chk4 v218), ∀ a x, ((![v218] : Fin 1 → IVec S16 32) a x).toNat < S32768.size a := fun v218 k0_hw4 => k0_hw4
def k0_off5 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v234 : Index := Scalar.indexCast arg11
  let c48 : Index := 48#32
  ![v234.toNat, 48]

def k0_chk5 (v242 : IVec S16 32) : Prop :=
  (∀ a x, ((![v242] : Fin 1 → IVec S16 32) a x).toNat < S32768.size a)
theorem k0_idx5_inb : ∀ (v242 : IVec S16 32) (k0_hw5 : k0_chk5 v242), ∀ a x, ((![v242] : Fin 1 → IVec S16 32) a x).toNat < S32768.size a := fun v242 k0_hw5 => k0_hw5
def k0_off6 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v258 : Index := Scalar.indexCast arg11
  let c64 : Index := 64#32
  ![v258.toNat, 64]

def k0_chk6 (v266 : IVec S16 32) : Prop :=
  (∀ a x, ((![v266] : Fin 1 → IVec S16 32) a x).toNat < S32768.size a)
theorem k0_idx6_inb : ∀ (v266 : IVec S16 32) (k0_hw6 : k0_chk6 v266), ∀ a x, ((![v266] : Fin 1 → IVec S16 32) a x).toNat < S32768.size a := fun v266 k0_hw6 => k0_hw6
def k0_off7 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v282 : Index := Scalar.indexCast arg11
  let c80 : Index := 80#32
  ![v282.toNat, 80]

def k0_chk7 (v290 : IVec S16 32) : Prop :=
  (∀ a x, ((![v290] : Fin 1 → IVec S16 32) a x).toNat < S32768.size a)
theorem k0_idx7_inb : ∀ (v290 : IVec S16 32) (k0_hw7 : k0_chk7 v290), ∀ a x, ((![v290] : Fin 1 → IVec S16 32) a x).toNat < S32768.size a := fun v290 k0_hw7 => k0_hw7
def k0_off8 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v306 : Index := Scalar.indexCast arg11
  let c96 : Index := 96#32
  ![v306.toNat, 96]

def k0_chk8 (v314 : IVec S16 32) : Prop :=
  (∀ a x, ((![v314] : Fin 1 → IVec S16 32) a x).toNat < S32768.size a)
theorem k0_idx8_inb : ∀ (v314 : IVec S16 32) (k0_hw8 : k0_chk8 v314), ∀ a x, ((![v314] : Fin 1 → IVec S16 32) a x).toNat < S32768.size a := fun v314 k0_hw8 => k0_hw8
def k0_off9 (k0_t2 : Fin k0_t2_loop.trips) : Fin 2 → Nat :=
  let c0_i32_4 : BitVec 32 := 0#32
  let c1_i32_6 : BitVec 32 := 1#32
  let arg11 : BitVec 32 := Scf.iv c0_i32_4 c1_i32_6 k0_t2
  let v330 : Index := Scalar.indexCast arg11
  let c112 : Index := 112#32
  ![v330.toNat, 112]
@[reducible] def k0_t3_loop : Scf.Loop 32 :=
  let c0_i32_109 : BitVec 32 := 0#32
  let c128_i32_110 : BitVec 32 := 128#32
  let v138 : BitVec 32 := Scalar.addi c0_i32_109 c128_i32_110
  let c1_i32_111 : BitVec 32 := 1#32
  ⟨c0_i32_109, v138, c1_i32_111⟩
def k0_off10 (k0_t3 : Fin k0_t3_loop.trips) : Fin 1 → Nat :=
  let c0_i32_109 : BitVec 32 := 0#32
  let c1_i32_111 : BitVec 32 := 1#32
  let arg11 : BitVec 32 := Scf.iv c0_i32_109 c1_i32_111 k0_t3
  let c16_i32_114 : BitVec 32 := 16#32
  let v140 : BitVec 32 := Scalar.muli arg11 c16_i32_114
  let v141 : Index := Scalar.indexCast v140
  ![v141.toNat]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c0_i32_0 : BitVec 32 := 0#32
  let c1_i32 : BitVec 32 := 1#32
  let arg9 : BitVec 32 := Scf.iv c0_i32_0 c1_i32 k0_t1
  let c2048_i32 : BitVec 32 := 2048#32
  let v5 : BitVec 32 := Scalar.muli arg9 c2048_i32
  let v6 : BitVec 32 := Scalar.addi v2 v5
  ![v6.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x16 : Shape := ⟨2, ![1048576, 16]⟩
abbrev S1048576x32 : Shape := ⟨2, ![1048576, 32]⟩
abbrev S1048576x1 : Shape := ⟨2, ![1048576, 1]⟩
abbrev S1048576 : Shape := ⟨1, ![1048576]⟩
abbrev S_ : Shape := ⟨0, ![]⟩
abbrev S1048576x2 : Shape := ⟨2, ![1048576, 2]⟩

abbrev nBuf : Space → Nat
  | .hbm => 42
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S1048576x32, .f32⟩
  | .hbm, ⟨2, _⟩ => ⟨S1048576x1, .f32⟩
  | .hbm, ⟨3, _⟩ => ⟨S1048576, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S1048576, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S_, .f32⟩
  | .hbm, ⟨18, _⟩ => ⟨S1048576x32, .f32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S_, .i32⟩
  | .hbm, ⟨27, _⟩ => ⟨S1048576, .i32⟩
  | .hbm, ⟨28, _⟩ => ⟨S1048576, .i1⟩
  | .hbm, ⟨29, _⟩ => ⟨S_, .i32⟩
  | .hbm, ⟨30, _⟩ => ⟨S1048576, .i32⟩
  | .hbm, ⟨31, _⟩ => ⟨S1048576, .i32⟩
  | .hbm, ⟨32, _⟩ => ⟨S1048576, .i32⟩
  | .hbm, ⟨33, _⟩ => ⟨S1048576x1, .i32⟩
  | .hbm, ⟨34, _⟩ => ⟨S1048576x1, .i32⟩
  | .hbm, ⟨35, _⟩ => ⟨S1048576x2, .i32⟩
  | .hbm, ⟨36, _⟩ => ⟨S_, .f32⟩
  | .hbm, ⟨37, _⟩ => ⟨S1048576, .f32⟩
  | .hbm, ⟨38, _⟩ => ⟨S1048576x32, .f32⟩
  | .hbm, ⟨39, _⟩ => ⟨S1048576x32, .f32⟩
  | .hbm, ⟨40, _⟩ => ⟨S_, .f32⟩
  | .hbm, ⟨41, _⟩ => ⟨S1048576, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Proof.GatherBatch.lean ====
/-
  Several indirect gathers outstanding on one semaphore. A tile that issues gather after gather before it waits for any
  of them holds ONE counted batch (Lib/Batch.lean) whose transfers are the gathers' rows: a gather of `o` rows takes the
  batch from `k` issued transfers to `k + o`. Nothing comes back before the last wait has consumed every row's units.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batchBody)

section Pending

variable {M : Type} [URA M] {n : ℕ}

/-- The transfer `k + j` of a batch of `n`, for `j` among the `o` that follow the first `k`. -/
def nthIx {k o : ℕ} (h : k + o ≤ n) (j : Fin o) : Fin n := ⟨k + j.val, by omega⟩

theorem nthIx_injective {k o : ℕ} (h : k + o ≤ n) : Function.Injective (nthIx h) := fun a b e => by
  have := congrArg Fin.val e
  simp only [nthIx] at this
  exact Fin.ext (by omega)

/-- The same, as an embedding. -/
def nth {k o : ℕ} (h : k + o ≤ n) : Fin o ↪ Fin n := ⟨nthIx h, nthIx_injective h⟩

theorem nth_val {k o : ℕ} (h : k + o ≤ n) (j : Fin o) : (nth h j).val = k + j.val := rfl

theorem mem_pending {k : ℕ} {t : Fin n} : t ∈ pending (n := n) k ↔ k ≤ t.val := by
  simp [pending]

/-- What is pending from `k` on is the next `o` and what is pending from `k + o` on. -/
theorem bigSep_pending_block {k o : ℕ} (h : k + o ≤ n) (Φ : Fin n → sProp M) :
    bigSep (pending k) Φ = iprop(bigSep Finset.univ (fun j : Fin o => Φ (nth h j)) ∗ bigSep (pending (k + o)) Φ) := by
  have e : pending (n := n) k = Finset.univ.map (nth h) ∪ pending (k + o) := by
    ext t
    rw [Finset.mem_union, mem_pending, mem_pending, Finset.mem_map]
    constructor
    · intro ht
      by_cases hlt : t.val < k + o
      · exact .inl ⟨⟨t.val - k, by omega⟩, Finset.mem_univ _, Fin.ext (by rw [nth_val]; show k + (t.val - k) = t.val; omega)⟩
      · exact .inr (by omega)
    · rintro (⟨j, -, rfl⟩ | ht)
      · rw [nth_val]; omega
      · omega
  have hd : Disjoint (Finset.univ.map (nth h)) (pending (n := n) (k + o)) := by
    refine Finset.disjoint_left.mpr fun t ht ht' => ?_
    obtain ⟨j, -, rfl⟩ := Finset.mem_map.mp ht
    rw [mem_pending, nth_val] at ht'
    omega
  rw [e, BI.bigSep_union hd, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- A credit update of `N` units is one of `M` units where `M` is `N`. -/
theorem creditUpdate_of_eq {g : GSem nD τ sig} {N M : ℕ} (h : M = N) {P R : sProp 𝕄} (H : P ⊢ creditUpdate g N 0 R) : P ⊢ creditUpdate g M 0 R :=
  h ▸ H

/-- AN INDIRECT GATHER ISSUED INTO A BATCH. The tile holds a batch of which `k` transfers are issued and none waited for,
    and for each transfer not yet issued its resources `R t`. For each of the next `o` (one for each row of the gather's
    destination) those are: the destination's row, the list's entry and a share of the source (`hgive`); and the row
    written, the entry and the share are what the batch's delivery `D t` is made from (`htake`). The list's words are
    in range (`hin`). The tile continues with `k + o` transfers issued, the resources of the others still in hand. -/
theorem wp_gatherIntoBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kk : PUnit → Prog (TpuEff nD τ sig (Elt F) Λ c.2) α} {n : ℕ}
    {qo : PosShare TreeShare} {fs : Buf (Elt F) (src.view.loc c)} {fd : Buf (Elt F) (dst.view.loc c)} {fo : Buf (Elt F) (offs.view.loc c)}
    {qk : Fin (s.size hg.axis') → PosShare TreeShare}
    (ι : Ix) (N : ℕ) (hN : ∀ j, (dst.slice (s.rowRect hg.axis' j) (s.stride_rowRect hg.axis' j)).view.dmaCredit = N)
    {k o : ℕ} (ho : s.size hg.axis' = o) (hk : k + s.size hg.axis' ≤ n) {D R : Fin n → sProp 𝕄}
    (hin : ∀ x, (offs.view.read (Elt F) fo x).toNat < s₀.size hg.axis)
    (hgive : ∀ j, R (nth hk j) ⊢ iprop(((dst.view.loc c ↦[(dst.view.slice (s.rowRect hg.axis' j)).set]{fullShare} fd)
        ∗ (offs.view.loc c ↦[{offs.view.emb (si.rowMajor.symm (j.cast hn.symm))}]{qo} fo)) ∗ (src.view.loc c ↦[src.view.set]{qk j} fs)))
    (htake : ∀ j, iprop(((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ))
        ∗ (offs.view.loc c ↦[{offs.view.emb (si.rowMajor.symm (j.cast hn.symm))}]{qo} fo)) ∗ (src.view.loc c ↦[src.view.set]{qk j} fs)) ⊢ D (nth hk j)) :
    iprop(Batch EC c (.dma sem) ι N D k 0 ∗ bigSep (pending k) R)
      ⊢ iprop((iprop(Batch EC c (.dma sem) ι N D (k + o) 0 ∗ bigSep (pending (k + o)) R) -∗ wp frame (wpE defs 𝒱 c bd) Set.univ (kk ⟨⟩) Q)
          -∗ wp frame (wpE defs 𝒱 c bd) Set.univ (enqueueIndirectGather hp src dst hg offs hn sem hsrc he hsp hr >>= kk) Q) := by
  subst ho
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := sum_rowCredit_eq _ hN rfl
  rw [bigSep_pending_block hk R]
  unfold Batch
  iintro ⟨⟨%γ, %γ₀, %κ, #Hinv, HI, H0, Hcred⟩, HR, Hrest⟩ Hk
  ihave HI' := (Entails.of_eq (bigSep_pending_block hk fun t => count EC (γ t) 0)) $$ HI
  icases HI' with ⟨Hγ, HI⟩
  iapply (wp_enqueueIndirectDma 𝒱 c bd Set.univ (qo := qo) (fo := fo) (rd := rd) ι (s.size hg.axis' * N) hA hrd hsum) $$ [HR Hγ]
  · have hrow : ∀ j, iprop(inv κ (batchBody EC (c, SemLoc.dma sem) N D γ γ₀) ∗ (R (nth hk j) ∗ count EC (γ (nth hk j)) 0))
        ⊢ iprop(S.heldEntry qo fo j ∗ (S.heldEntry qo fo j -∗ rowRes c (rd j))) := fun j => by
      iintro ⟨#Hinv, HRj, Hγj⟩
      ihave H := (hgive j) $$ HRj
      icases H with ⟨⟨Hr, He⟩, Hsq⟩
      isplitl [He]; · iexact He
      iintro He
      unfold rowRes
      iexists qk j, fs, iprop((dst.view.loc c ↦[(dst.view.slice (s.rowRect hg.axis' j)).set]{fullShare}
          ((dst.view.slice (s.rowRect hg.axis' j)).write (Elt F) fd (fun i => src.view.read (Elt F) fs (hg.rowIdx (r j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcr : (rd j).dst.view.amount (SemLoc.dma sem) = N := hN j
        iapply (creditUpdate_of_eq hcr (Transfers.batch_creditUpdate EC (nth hk j) (htake j)))
        isplitr; · iexact Hinv
        iexact Hγj
    unfold Stream.res
    ihave H1 := Transfers.bigSep_sep_in _ _ _ $$ [HR Hγ]; · isplitl [HR] <;> iassumption
    iapply (Transfers.bigSep_mono_pers Finset.univ _ _ _ fun j _ => hrow j)
    isplitr; · iexact Hinv
    iexact H1
  · iintro Hcred'
    iapply Hk
    isplitr [Hrest]
    · iexists γ, γ₀, κ
      isplitr; · iexact Hinv
      isplitl [HI]; · iexact HI
      isplitl [H0]; · iexact H0
      rw [Nat.sub_zero, Nat.sub_zero, Nat.add_mul, ← tallyAt_add]
      icombine Hcred Hcred' as H
      iexact H
    · iexact Hrest

end Cert.Proof.GatherBatch
-- ==== Proof.Words.lean ====
/-
  The words the tiles compute. Element `n` of the problem reads the column `colW` of `z`'s first entry in row `n` and
  fetches element `flatW` of `a` laid out flat; a tile computes both sixteen lanes at a time (`gIdx`, `gFlat`).
-/
module

public import proofs.«01_k».proof.Defs
public import Idealize.ShloMosaic.Lib.ValueIdx
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic Idealize.ShloMosaic.ValueIdx

variable {F : FTy → Type} [FloatOps F]

/-- The column a value of `z` picks: `z · 32` as an integer, brought between 0 and 31. -/
def colW (x : F .f32) : BitVec 32 :=
  IntOp.minsi 31#32 (IntOp.maxsi 0#32 (FloatOps.fptosi 32 (FloatOps.mulf x (Scalar.ofBits .f32 0x42000000#32))))

/-- The position of row `n`'s picked element in `a` laid out flat, as the word a tile computes. -/
def flatW (n : ℕ) (x : F .f32) : BitVec 32 := BitVec.ofNat 32 n * 32#32 + colW x

/-- Sixteen consecutive numbers times 16: where the lanes' entries of `z` lie in the fetched rows. `a` is the row of the
    index scratch and `o` the group's first column. -/
def gIdx (a o : BitVec 32) : IVec S16 32 :=
  muli (addi (iota .scVector S16 32 [0] iota_S16_d0_w32_scVector) (broadcast S16 (Scalar.addi (Scalar.muli a 128#32) o))) (broadcast S16 16#32)

/-- The sixteen positions of one group of lanes, from the group's entries `x` of `z`. -/
def gFlat (b a o : BitVec 32) (x : Vec F S16 .f32) : IVec S16 32 :=
  addi (muli (addi (broadcast S16 (Scalar.addi b (Scalar.addi (Scalar.muli a 128#32) o))) (iota .scVector S16 32 [0] iota_S16_d0_w32_scVector)) (broadcast S16 32#32))
    (minsi (broadcast S16 31#32) (maxsi (broadcast S16 0#32) (fptosi 32 (mulf x (broadcast S16 (Scalar.ofBits .f32 0x42000000#32))))))

omit [FloatOps F] in
theorem iota16 (x : S16.Idx) : iota .scVector S16 32 [0] iota_S16_d0_w32_scVector x = BitVec.ofNat 32 (x 0).val := by
  simp [iota]

/-- A column is below 32. -/
theorem colW_lt (x : F .f32) : (colW x).toNat < 32 := by
  unfold colW
  generalize FloatOps.fptosi 32 (FloatOps.mulf x (Scalar.ofBits .f32 0x42000000#32)) = w
  unfold IntOp.minsi IntOp.maxsi
  have h : ∀ w : BitVec 32, (if BitVec.slt 31#32 (if BitVec.slt w 0#32 then 0#32 else w) then 31#32 else (if BitVec.slt w 0#32 then 0#32 else w)).toNat < 32 := by
    intro w
    split
    · decide
    · rename_i h1
      revert h1
      split
      · intro; decide
      · rename_i h0
        intro h1
        simp only [BitVec.slt, decide_eq_true_eq, Bool.not_eq_true, decide_eq_false_iff_not, BitVec.toInt_eq_toNat_cond] at h0 h1
        have := w.isLt
        simp at h0 h1
        omega
  exact h w

/-- Below 2²⁰ the position is `32 n` and the column, with no wrapping round. -/
theorem flatW_toNat {n : ℕ} (hn : n < 1048576) (x : F .f32) : (flatW n x).toNat = 32 * n + (colW x).toNat := by
  have hc := colW_lt x
  unfold flatW
  rw [BitVec.toNat_add, BitVec.toNat_mul, BitVec.toNat_ofNat]
  simp only [BitVec.toNat_ofNat]
  omega

theorem flatW_lt {n : ℕ} (hn : n < 1048576) (x : F .f32) : (flatW n x).toNat < 33554432 := by
  have hc := colW_lt x
  rw [flatW_toNat hn]
  omega

omit [FloatOps F] in
/-- Lane `x` of a group's numbers. -/
theorem gIdx_toNat {r o : ℕ} (hr : r < 16) (ho : o ≤ 112) (x : S16.Idx) :
    (gIdx (BitVec.ofNat 32 r) (BitVec.ofNat 32 o) x).toNat = 16 * (128 * r + o + (x 0).val) := by
  have hx : (x 0).val < 16 := (x 0).isLt
  have e : gIdx (BitVec.ofNat 32 r) (BitVec.ofNat 32 o) x
      = (iota .scVector S16 32 [0] iota_S16_d0_w32_scVector x + (BitVec.ofNat 32 r * 128#32 + BitVec.ofNat 32 o)) * 16#32 := rfl
  rw [e, iota16]
  simp only [BitVec.toNat_mul, BitVec.toNat_add, BitVec.toNat_ofNat]
  omega

/-- Lane `x` of a group's positions: the position of row `b + 128 r + o + x`. -/
theorem gFlat_apply (b r o : ℕ) (v : Vec F S16 .f32) (x : S16.Idx) :
    gFlat (BitVec.ofNat 32 b) (BitVec.ofNat 32 r) (BitVec.ofNat 32 o) v x = flatW (b + (128 * r + o + (x 0).val)) (v x) := by
  have e : gFlat (BitVec.ofNat 32 b) (BitVec.ofNat 32 r) (BitVec.ofNat 32 o) v x
      = ((BitVec.ofNat 32 b + (BitVec.ofNat 32 r * 128#32 + BitVec.ofNat 32 o)) + iota .scVector S16 32 [0] iota_S16_d0_w32_scVector x) * 32#32 + colW (v x) := rfl
  rw [e, iota16]
  unfold flatW
  congr 2
  apply BitVec.eq_of_toNat_eq
  simp only [BitVec.toNat_mul, BitVec.toNat_add, BitVec.toNat_ofNat]
  omega

omit [FloatOps F] in
/-- A counted loop's word at its trip. -/
theorem iv_eq (k : ℕ) : Scf.iv 0#32 1#32 k = BitVec.ofNat 32 k := by
  simp [Scf.iv]

/-- The first row of the block of 2048 that tile `(c, s)` handles at trip `t`. -/
def base (i : grid0.Coords) (t : ℕ) : ℕ := 65536 * (i 1).val + 32768 * (i 0).val + 2048 * t

omit [FloatOps F] in
/-- The word a tile computes for its first row. -/
theorem base_word (i : grid0.Coords) (t : ℕ) :
    Scalar.addi (Scalar.muli (Scalar.addi (Scalar.muli (BitVec.ofNat 32 (i 1).val) 2#32) (BitVec.ofNat 32 (i 0).val)) 32768#32)
      (Scalar.muli (Scf.iv 0#32 1#32 t) 2048#32) = BitVec.ofNat 32 (base i t) := by
  rw [iv_eq]
  show (BitVec.ofNat 32 (i 1).val * 2#32 + BitVec.ofNat 32 (i 0).val) * 32768#32 + BitVec.ofNat 32 t * 2048#32 = _
  apply BitVec.eq_of_toNat_eq
  unfold base
  simp only [BitVec.toNat_mul, BitVec.toNat_add, BitVec.toNat_ofNat]
  omega

omit [FloatOps F] in
theorem base_lt (i : grid0.Coords) {t : ℕ} (ht : t < 16) : base i t + 2048 ≤ 1048576 := by
  have h1 : (i 1).val < 16 := (i 1).isLt
  have h0 : (i 0).val < 2 := (i 0).isLt
  unfold base
  omega

/-! ## The problem's result

`zf` and `af` are `z` and `a` laid out flat. The functions below are total in the row number: positions are taken modulo the
arrays' lengths, and for the rows there are nothing is changed by that. -/

/-- The first entry of row `n` of `z`. -/
def zRow (zf : S16777216.Idx → F .f32) (n : ℕ) : F .f32 := zf (ix1 ⟨16 * n % 16777216, Nat.mod_lt _ (by decide)⟩)

/-- The position in `a` that row `n` picks. -/
def rowW (zf : S16777216.Idx → F .f32) (n : ℕ) : BitVec 32 := flatW n (zRow zf n)

/-- The entry of `a` at a position. -/
def aAt (af : S33554432.Idx → F .f32) (w : BitVec 32) : F .f32 := af (ix1 ⟨w.toNat % 33554432, Nat.mod_lt _ (by decide)⟩)

/-- The constant 0.999. -/
def scale : F .f32 := Scalar.ofBits .f32 0x3F7FBE77#32

/-- What the kernel leaves for row `n`: the picked entry of `a` times the constant 0.999. -/
def outV (zf : S16777216.Idx → F .f32) (af : S33554432.Idx → F .f32) (n : ℕ) : F .f32 :=
  FloatOps.mulf (aAt af (rowW zf n)) scale

end Cert.Proof.Words
-- ==== Proof.Setup.lean ====
/-
  The setting of the run: the program as the launch rule sees it, the resource algebra, the buffers and semaphores one tile
  works with, and what is said of their contents.
-/
module

public import proofs.«01_k».proof.Defs
public import proofs.«01_k».proof.Proof.GatherBatch
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Setup

open Cert.KernelIdeal Cert.KernelIdeal.Gen
open Cert.Proof.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## One tile's names -/

abbrev cV (L : grid0.Coords) : Fin τ.nSC := (L 0).castLE hcore0
abbrev jV (L : grid0.Coords) : Fin τ.nSub := (L 1).castLE hsub0
/-- The tile of device `d` at coordinates `L`. -/
abbrev tile (d : Dev nD) (L : grid0.Coords) : Thread nD τ := V d (cV L) (jV L)

/-- `z` and `a` laid out flat, and the result, in the high-bandwidth memory. -/
abbrev zM : Memref sig .scVector .hbm S16777216 .f32 := Memref.whole main_v0_scv
abbrev aM : Memref sig .scVector .hbm S33554432 .f32 := Memref.whole main_v1_scv
abbrev oM : Memref sig .scVector .hbm S1048576 .f32 := Memref.whole main_v2_scv
/-- The tile's scratch: the fetched rows of `z`, the positions, the picked entries. -/
abbrev rowsM : Memref sig .scVector .vmem S32768 .f32 := Memref.whole cc0_scratch0
abbrev posM : Memref sig .scVector .vmem S16x128 .i32 := Memref.whole cc0_scratch1
abbrev valM : Memref sig .scVector .vmem S2048 .f32 := Memref.whole cc0_scratch2

abbrev rowsPts (d : Dev nD) (L : grid0.Coords) (f : Buf (Elt F) (rowsM.view.loc (tile d L))) : sProp 𝕄 := rowsM.view.loc (tile d L) ↦{fullShare} f
abbrev posPts (d : Dev nD) (L : grid0.Coords) (f : Buf (Elt F) (posM.view.loc (tile d L))) : sProp 𝕄 := posM.view.loc (tile d L) ↦{fullShare} f
abbrev valPts (d : Dev nD) (L : grid0.Coords) (f : Buf (Elt F) (valM.view.loc (tile d L))) : sProp 𝕄 := valM.view.loc (tile d L) ↦{fullShare} f

/-! ## What the scratch holds -/

/-- The scratch holds the rows of `z` from row `B` on. -/
def ZRead (B : ℕ) (zf : S16777216.Idx → F .f32) (zb : S32768.Idx → F .f32) : Prop :=
  ∀ j : Fin 32768, zb (ix1 j) = zf (ix1 ⟨(16 * B + j.val) % 16777216, Nat.mod_lt _ (by decide)⟩)

/-- The first `n` positions are in place, row `B`'s first. -/
def Filled [FloatOps F] (B : ℕ) (zf : S16777216.Idx → F .f32) (n : ℕ) (f : S16x128.Idx → BitVec 32) : Prop :=
  ∀ (r : Fin 16) (c : Fin 128), 128 * r.val + c.val < n → f (ix2 r c) = rowW zf (B + (128 * r.val + c.val))

/-- The first `n` of the entries `g` have been scaled. -/
def Scaled [FloatOps F] (g : ℕ → F .f32) (n : ℕ) (f : S2048.Idx → F .f32) : Prop :=
  ∀ j : Fin 2048, f (ix1 j) = if j.val < n then FloatOps.mulf (g j.val) scale else g j.val

end Cert.Proof.Setup
-- ==== Proof.Lanes.lean ====
/-
  The positions. A trip of a tile's inner loop fills one row of the position scratch, sixteen lanes at a time: fetch the
  lanes' entries of `z`, turn each into its position in `a`, store the sixteen positions.
-/
module

public import proofs.«01_k».proof.Proof.Setup
public import Idealize.ShloMosaic.Lib.Pointwise.Reshape

@[expose] public section

noncomputable section

namespace Cert.Proof.Lanes

open Cert.KernelIdeal Cert.KernelIdeal.Gen
open Cert.Proof.Words Cert.Proof.Setup
open Idealize.ShloMosaic hiding ix1 ix2 eq_ix1 eq_ix2
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The position scratch with its first `n` positions in place. -/
def posFill (B : ℕ) (zf : S16777216.Idx → F .f32) (n : ℕ) : sProp 𝕄 :=
  iprop(∃ f, posPts d L f ∗ ⌜Filled B zf n f⌝)

/-- A check that holds is passed. -/
theorem wp_check {P : Prop} {dec : Decidable P} {Q : PLift P → sProp 𝕄} (h : P) :
    Q ⟨h⟩ ⊢ wp frame (wpE (defs₀ (F := F)) 𝒱₀ (tile d L) none) Set.univ (Prog.lift (.assume P dec)) Q :=
  (le_wp_ret _ _ _ _ _).trans (wp_assume 𝒱₀ (tile d L) none Set.univ h)

/-- A program is itself followed by nothing. -/
theorem wp_of_bind_ret {α : Type} {p : Prog (TpuEff nD τ sig (Elt F) Λ₀ (tile d L).2) α} {Q : α → sProp 𝕄} :
    wp frame (wpE (defs₀ (F := F)) 𝒱₀ (tile d L) none) Set.univ (p >>= pure) Q
      ⊢ wp frame (wpE (defs₀ (F := F)) 𝒱₀ (tile d L) none) Set.univ p Q :=
  Entails.of_eq (by rw [bind_pure])

omit [FloatOps F] in
/-- The numbers of one group of lanes lie in the fetched rows. -/
theorem gIdx_inb {r o : ℕ} (hr : r < 16) (ho : o ≤ 112) {v : IVec S16 32} (hv : v = gIdx (BitVec.ofNat 32 r) (BitVec.ofNat 32 o)) :
    ∀ a x, ((![v] : Fin 1 → IVec S16 32) a x).toNat < S32768.size a := by
  subst hv
  intro a x
  have hx : (x 0).val < 16 := (x 0).isLt
  have e : ((![gIdx (BitVec.ofNat 32 r) (BitVec.ofNat 32 o)] : Fin 1 → IVec S16 32) a x).toNat = 16 * (128 * r + o + (x 0).val) := by
    rw [Subsingleton.elim a 0]; exact gIdx_toNat hr ho x
  rw [e, Subsingleton.elim a 0]
  show _ < 32768
  omega

/-- The indexed fetch of one group: lane `i` receives the first entry of its row of `z`. -/
theorem wp_laneLoad {B : ℕ} {zf : S16777216.Idx → F .f32} {zb : Buf (Elt F) (rowsM.view.loc (tile d L))} (hz : ZRead B zf zb) {r o : ℕ} (hr : r < 16) (ho : o ≤ 112)
    {v : IVec S16 32} (hv : v = gIdx (BitVec.ofNat 32 r) (BitVec.ofNat 32 o)) {h : ∀ a x, ((![v] : Fin 1 → IVec S16 32) a x).toNat < S32768.size a}
    {hl : (rowsM).view.Loads} {Q : Vec F S16 .f32 → sProp 𝕄} :
    (rowsPts d L zb : sProp 𝕄)
      ⊢ iprop((∀ x, ⌜∀ i, x i = zRow zf (B + (128 * r + o + (i 0).val))⌝ -∗ rowsPts d L zb -∗ Q x)
        -∗ wp frame (wpE (defs₀ (F := F)) 𝒱₀ (tile d L) none) Set.univ (SparseCore.vectorLoadIdx (F := F) rowsM ![v] h hl) Q) := by
  have hS : ((rowsM).access (.whole S32768)).set ⊆ (Finset.univ : Finset S32768.Idx) := Finset.subset_univ _
  iintro Hz Hk
  iapply (wp_of_bind_ret d L)
  iapply (SparseCore.wp_vectorLoadIdx (defs := defs₀ (F := F)) 𝒱₀ (tile d L) none Set.univ (base := rowsM) (S := Finset.univ) (f := zb) hS) $$ Hz
  iintro Hz
  iapply (le_wp_ret frame (wpE (defs₀ (F := F)) 𝒱₀ (tile d L) none) Set.univ _ Q)
  iapply Hk $$ [] Hz
  ipureintro
  intro i
  subst hv
  have hi : (i 0).val < 16 := (i 0).isLt
  have e : loadIdx (((rowsM).access (.whole S32768)).read (Elt F) zb) ![gIdx (BitVec.ofNat 32 r) (BitVec.ofNat 32 o)] h i
      = zb (ix1 ⟨16 * (128 * r + o + (i 0).val), by omega⟩) := by
    have e0 : (((rowsM).access (.whole S32768)).read (Elt F) zb) = zb := by
      funext x
      rw [View.read_apply]
      exact congrArg zb (funext fun a => Fin.ext (by
        show (Rect.emb (.whole S32768) x a : ℕ) = _
        rw [Rect.emb_apply]; simp [Rect.whole]))
    rw [e0]
    refine congrArg zb ((eq_ix1 _).trans ?_)
    exact congrArg ix1 (Fin.ext (gIdx_toNat hr ho i))
  rw [e, hz]
  unfold zRow
  refine congrArg zf (congrArg ix1 (Fin.ext ?_))
  show (16 * B + 16 * (128 * r + o + (i 0).val)) % 16777216 = 16 * (B + (128 * r + o + (i 0).val)) % 16777216
  exact congrArg (· % 16777216) (by omega)

/-- Reading the position scratch, the value unused. -/
theorem wp_laneRead {B n : ℕ} {zf : S16777216.Idx → F .f32} {r : LoadRect S16x128} {hl : posM.view.LoadsAt r} {Q : (r.shape.Idx → Elt F .i32) → sProp 𝕄} :
    (posFill d L B zf n : sProp 𝕄)
      ⊢ iprop((∀ y, posFill d L B zf n -∗ Q y)
        -∗ wp frame (wpE (defs₀ (F := F)) 𝒱₀ (tile d L) none) Set.univ (Prog.lift (.load posM r hl)) Q) := by
  unfold posFill
  iintro ⟨%f, Hf, %hf⟩ Hk
  iapply (wp_load (defs := defs₀ (F := F)) 𝒱₀ (tile d L) none Set.univ (m := posM) (S := Finset.univ) (f := f) (Finset.subset_univ _)) $$ Hf
  iintro Hf
  iapply (le_wp_ret frame (wpE (defs₀ (F := F)) 𝒱₀ (tile d L) none) Set.univ _ Q)
  iapply Hk
  iexists f
  isplitl [Hf]
  · iexact Hf
  · ipureintro; exact hf

/-- Storing one group's sixteen positions: the next sixteen are in place. -/
theorem filled_store {B : ℕ} {zf : S16777216.Idx → F .f32} {r o : ℕ} (hr : r < 16) (ho : o ≤ 112) {off : Fin 2 → ℕ} (hoff : off = ![r, o])
    {inb : ∀ a, off a + S1x16.size a ≤ S16x128.size a} {w : IVec S16 32} (hw : ∀ i, w i = rowW zf (B + (128 * r + o + (i 0).val)))
    {f : Buf (Elt F) (posM.view.loc (tile d L))} (hf : Filled B zf (128 * r + o) f) :
    Filled B zf (128 * r + o + 16)
      ((posM.access (Rect.unit (s := S16x128) off S1x16.size inb)).write (Elt F) f (shapeCast S1x16 w shapeCasts_S16_S1x16) Finset.univ) := by
  subst hoff
  intro r' c' hlt
  by_cases hin : 128 * r + o ≤ 128 * r'.val + c'.val
  · have hr' : r'.val = r := by have := c'.isLt; omega
    have hc' : c'.val - o < 16 := by omega
    have e : ix2 r' c' = (posM.access (Rect.unit (s := S16x128) ![r, o] S1x16.size inb)).emb (ix2 (0 : Fin 1) (⟨c'.val - o, hc'⟩ : Fin 16)) := by
      funext a
      apply Fin.ext
      show _ = (Rect.emb (Rect.unit (s := S16x128) ![r, o] S1x16.size inb) (ix2 (0 : Fin 1) (⟨c'.val - o, hc'⟩ : Fin 16)) a : ℕ)
      rw [Rect.emb_apply]
      match a with
      | 0 => show r'.val = r + 1 * 0; omega
      | 1 => show c'.val = o + 1 * (c'.val - o); omega
    rw [e, View.write_emb_of_mem _ _ (Finset.mem_univ _)]
    refine (cast_eq _ _).trans ?_
    show w (Shape.reshapeEquiv shapeCasts_S16_S1x16 (ix2 (0 : Fin 1) (⟨c'.val - o, hc'⟩ : Fin 16))) = _
    rw [show Shape.reshapeEquiv shapeCasts_S16_S1x16 (ix2 (0 : Fin 1) (⟨c'.val - o, hc'⟩ : Fin 16)) = ix1 (⟨c'.val - o, hc'⟩ : Fin 16) from
      Shape.reshapeEquiv_eq_of_rowMajor _ (by rw [rowMajor_val1, rowMajor_val2 _ 16 rfl]; show c'.val - o = 0 * 16 + (c'.val - o); omega), hw]
    show rowW zf (B + (128 * r + o + (c'.val - o))) = _
    congr 2
    omega
  · rw [View.write_of_not_mem]
    · exact hf r' c' (by omega)
    · intro hm
      obtain ⟨j, -, e⟩ := Finset.mem_map.mp hm
      have e0 : (Rect.emb (Rect.unit (s := S16x128) ![r, o] S1x16.size inb) j 0 : ℕ) = r'.val := congrArg (fun x : S16x128.Idx => (x 0).val) e
      have e1 : (Rect.emb (Rect.unit (s := S16x128) ![r, o] S1x16.size inb) j 1 : ℕ) = c'.val := congrArg (fun x : S16x128.Idx => (x 1).val) e
      rw [Rect.emb_apply] at e0 e1
      have e0' : r + 1 * (j 0).val = r'.val := e0
      have e1' : o + 1 * (j 1).val = c'.val := e1
      omega

/-- Storing one group's sixteen positions at the head of a program. -/
theorem wp_laneStore {B : ℕ} {zf : S16777216.Idx → F .f32} {r o n : ℕ} (hr : r < 16) (ho : o ≤ 112) (hn : n = 128 * r + o + 16) {off : Fin 2 → ℕ} (hoff : off = ![r, o])
    {inb : ∀ a, off a + S1x16.size a ≤ S16x128.size a} {w : IVec S16 32} (hw : ∀ i, w i = rowW zf (B + (128 * r + o + (i 0).val)))
    {hs : (posM.access (Rect.unit (s := S16x128) off S1x16.size inb)).Stores Finset.univ}
    {hx : (Finset.univ : Finset S1x16.Idx) = Finset.univ ∨ ∀ a, (Rect.unit (s := S16x128) off S1x16.size inb).stride a = 1} {Q : PUnit → sProp 𝕄} :
    (posFill d L B zf (128 * r + o) : sProp 𝕄)
      ⊢ iprop((posFill d L B zf n -∗ Q ⟨⟩)
        -∗ wp frame (wpE (defs₀ (F := F)) 𝒱₀ (tile d L) none) Set.univ
            (Prog.lift (.store posM (Rect.unit (s := S16x128) off S1x16.size inb) (shapeCast S1x16 w shapeCasts_S16_S1x16) Finset.univ hs hx)) Q) := by
  subst hn
  unfold posFill
  iintro ⟨%f, Hf, %hf⟩ Hk
  iapply (wp_store (defs := defs₀ (F := F)) 𝒱₀ (tile d L) none Set.univ (m := posM) (r := Rect.unit (s := S16x128) off S1x16.size inb) (S := Finset.univ) (f := f) (Finset.subset_univ _)) $$ Hf
  iintro Hf
  iapply (le_wp_ret frame (wpE (defs₀ (F := F)) 𝒱₀ (tile d L) none) Set.univ _ Q)
  iapply Hk
  iexists _
  isplitl [Hf]
  · iexact Hf
  · ipureintro; exact filled_store d L hr ho hoff hw hf

/-- One group's check and fetch. -/
theorem wp_laneFetch {B : ℕ} {zf : S16777216.Idx → F .f32} {zb : Buf (Elt F) (rowsM.view.loc (tile d L))} (hz : ZRead B zf zb) {r o : ℕ} (hr : r < 16) (ho : o ≤ 112)
    {v : IVec S16 32} (hv : v = gIdx (BitVec.ofNat 32 r) (BitVec.ofNat 32 o)) {dec : Decidable (∀ a x, ((![v] : Fin 1 → IVec S16 32) a x).toNat < S32768.size a)}
    {hi : PLift (∀ a x, ((![v] : Fin 1 → IVec S16 32) a x).toNat < S32768.size a) → ∀ a x, ((![v] : Fin 1 → IVec S16 32) a x).toNat < S32768.size a}
    {hl : (rowsM).view.Loads} {Q : Vec F S16 .f32 → sProp 𝕄} :
    (rowsPts d L zb : sProp 𝕄)
      ⊢ iprop((∀ x, ⌜∀ i, x i = zRow zf (B + (128 * r + o + (i 0).val))⌝ -∗ rowsPts d L zb -∗ Q x)
        -∗ wp frame (wpE (defs₀ (F := F)) 𝒱₀ (tile d L) none) Set.univ (Prog.lift (.assume (∀ a x, ((![v] : Fin 1 → IVec S16 32) a x).toNat < S32768.size a) dec))
            fun hw => wp frame (wpE (defs₀ (F := F)) 𝒱₀ (tile d L) none) Set.univ (SparseCore.vectorLoadIdx (F := F) rowsM ![v] (hi hw) hl) Q) := by
  iintro Hz Hk
  iapply (wp_check d L (gIdx_inb hr ho hv))
  iapply (wp_laneLoad d L hz hr ho hv) $$ Hz
  iexact Hk

/-- One group's store, after the reading of what was there. -/
theorem wp_lanePut {B : ℕ} {zf : S16777216.Idx → F .f32} {r o : ℕ} (hr : r < 16) (ho : o ≤ 112) {w : IVec S16 32} (hw : ∀ i, w i = rowW zf (B + (128 * r + o + (i 0).val)))
    {off : Fin 2 → ℕ} (hoff : off = ![r, o]) {inb : ∀ a, off a + S1x16.size a ≤ S16x128.size a} {rd : LoadRect S16x128} {hl : posM.view.LoadsAt rd}
    {hs : (posM.access (Rect.unit (s := S16x128) off S1x16.size inb)).Stores Finset.univ}
    {hx : (Finset.univ : Finset S1x16.Idx) = Finset.univ ∨ ∀ a, (Rect.unit (s := S16x128) off S1x16.size inb).stride a = 1} {Q : PUnit → sProp 𝕄} :
    (posFill d L B zf (128 * r + o) : sProp 𝕄)
      ⊢ iprop((posFill d L B zf (128 * r + (o + 16)) -∗ Q ⟨⟩)
        -∗ wp frame (wpE (defs₀ (F := F)) 𝒱₀ (tile d L) none) Set.univ (Prog.lift (.load posM rd hl))
            fun _ => wp frame (wpE (defs₀ (F := F)) 𝒱₀ (tile d L) none) Set.univ
              (Prog.lift (.store posM (Rect.unit (s := S16x128) off S1x16.size inb) (shapeCast S1x16 w shapeCasts_S16_S1x16) Finset.univ hs hx)) Q) := by
  iintro Hf Hk
  iapply (wp_laneRead d L) $$ Hf
  iintro %y Hf
  iapply (wp_laneStore d L hr ho (Nat.add_assoc _ _ _).symm hoff hw) $$ Hf
  iexact Hk

/-- The word a tile computes for the first of its rows. -/
abbrev tileWord (L : grid0.Coords) : BitVec 32 :=
  Scalar.muli (Scalar.addi (Scalar.muli (BitVec.ofNat 32 (L 1).val) 2#32) (BitVec.ofNat 32 (L 0).val)) 32768#32
/-- The word for the first row of trip `t`. -/
abbrev tripWord (L : grid0.Coords) (t : ℕ) : BitVec 32 := Scalar.addi (tileWord L) (Scalar.muli (Scf.iv 0#32 1#32 t) 2048#32)
/-- The factor 32, as the program names it. -/
abbrev c32 : F .f32 := Scalar.ofBits .f32 0x42000000#32

/-- A group's payload from its entries of `z`: their rows' positions. -/
theorem payload_eq {t : ℕ} {zf : S16777216.Idx → F .f32} {r : ℕ} (o : ℕ) (x : Vec F S16 .f32)
    (hx : ∀ i, x i = zRow zf (base L t + (128 * r + o + (i 0).val))) {w : IVec S16 32}
    (hw : w = gFlat (tripWord L t) (Scf.iv 0#32 1#32 r) (BitVec.ofNat 32 o) x) :
    ∀ i, w i = rowW zf (base L t + (128 * r + o + (i 0).val)) := by
  intro i
  rw [hw, tripWord, base_word, iv_eq, gFlat_apply, hx]
  rfl

theorem trips2 : k0_t2_loop.trips = 16 := by decide +kernel

set_option maxHeartbeats 4000000 in
/-- One trip of the inner loop: row `k` of the position scratch. -/
theorem wp_fillRow (t : Fin k0_t1_loop.trips) {zf : S16777216.Idx → F .f32} {zb : Buf (Elt F) (rowsM.view.loc (tile d L))} (hz : ZRead (base L t.val) zf zb)
    (k : Fin k0_t2_loop.trips) (acc : BitVec 32) :
    (iprop(rowsPts d L zb ∗ posFill d L (base L t.val) zf (128 * k.val)) : sProp 𝕄)
      ⊢ wp frame (wpE (defs₀ (F := F)) 𝒱₀ (tile d L) none) Set.univ
          (k0_t2_body L zM (Memref.isWhole_whole _) aM (Memref.isWhole_whole _) oM (Memref.isWhole_whole _) rowsM (Memref.isWhole_whole _)
            posM (Memref.isWhole_whole _) valM (Memref.isWhole_whole _) cc0_scratch3 cc0_scoped0 cc0_scoped1 (tileWord L) c32 31#32 0#32 1#32 t (tripWord L t.val) k acc)
          fun _ => iprop(rowsPts d L zb ∗ posFill d L (base L t.val) zf (128 * (k.val + 1))) := by
  have hk : k.val < 16 := trips2 ▸ k.isLt
  have gNum : ∀ (o : ℕ) (v : IVec S16 32), v = gIdx (Scf.iv 0#32 1#32 k.val) (BitVec.ofNat 32 o) → v = gIdx (BitVec.ofNat 32 k.val) (BitVec.ofNat 32 o) :=
    fun o v h => by rw [h, iv_eq]
  unfold k0_t2_body
  simp only [k0_part1_eq_skeleton, k0_part2_eq_skeleton, k0_part3_eq_skeleton, k0_part4_eq_skeleton]
  unfold k0_part1_skel k0_part2_skel k0_part3_skel k0_part4_skel
  simp only [wp_bind]
  iintro ⟨Hz, Hf⟩
  iapply (wp_laneFetch d L hz hk (o := 0) (by decide) (gNum 0 _ rfl)) $$ Hz
  iintro %x0 %hx0 Hz
  iapply (wp_lanePut d L hk (o := 0) (by decide) (payload_eq L 0 x0 hx0 rfl) (k0_off2_eq k)) $$ Hf
  iintro Hf
  iapply (wp_laneFetch d L hz hk (o := 16) (by decide) (gNum 16 _ rfl)) $$ Hz
  iintro %x1 %hx1 Hz
  iapply (le_wp_ret _ _ _ _ _)
  dsimp only
  iapply (wp_lanePut d L hk (o := 16) (by decide) (payload_eq L 16 x1 hx1 rfl) (k0_off3_eq k)) $$ Hf
  iintro Hf
  iapply (wp_laneFetch d L hz hk (o := 32) (by decide) (gNum 32 _ rfl)) $$ Hz
  iintro %x2 %hx2 Hz
  iapply (wp_lanePut d L hk (o := 32) (by decide) (payload_eq L 32 x2 hx2 rfl) (k0_off4_eq k)) $$ Hf
  iintro Hf
  iapply (wp_laneFetch d L hz hk (o := 48) (by decide) (gNum 48 _ rfl)) $$ Hz
  iintro %x3 %hx3 Hz
  iapply (le_wp_ret _ _ _ _ _)
  dsimp only
  iapply (wp_lanePut d L hk (o := 48) (by decide) (payload_eq L 48 x3 hx3 rfl) (k0_off5_eq k)) $$ Hf
  iintro Hf
  iapply (wp_laneFetch d L hz hk (o := 64) (by decide) (gNum 64 _ rfl)) $$ Hz
  iintro %x4 %hx4 Hz
  iapply (wp_lanePut d L hk (o := 64) (by decide) (payload_eq L 64 x4 hx4 rfl) (k0_off6_eq k)) $$ Hf
  iintro Hf
  iapply (wp_laneFetch d L hz hk (o := 80) (by decide) (gNum 80 _ rfl)) $$ Hz
  iintro %x5 %hx5 Hz
  iapply (le_wp_ret _ _ _ _ _)
  dsimp only
  iapply (wp_lanePut d L hk (o := 80) (by decide) (payload_eq L 80 x5 hx5 rfl) (k0_off7_eq k)) $$ Hf
  iintro Hf
  iapply (wp_laneFetch d L hz hk (o := 96) (by decide) (gNum 96 _ rfl)) $$ Hz
  iintro %x6 %hx6 Hz
  iapply (wp_lanePut d L hk (o := 96) (by decide) (payload_eq L 96 x6 hx6 rfl) (k0_off8_eq k)) $$ Hf
  iintro Hf
  iapply (le_wp_ret _ _ _ _ _)
  dsimp only
  iapply (wp_laneFetch d L hz hk (o := 112) (by decide) (gNum 112 _ rfl)) $$ Hz
  iintro %x7 %hx7 Hz
  iapply (wp_lanePut d L hk (o := 112) (by decide) (payload_eq L 112 x7 hx7 rfl) (k0_off9_eq k)) $$ Hf
  iintro Hf
  iapply (le_wp_ret _ _ _ _ _)
  isplitl [Hz]
  · iexact Hz
  · iexact Hf

end Cert.Proof.Lanes
-- ==== Proof.Rows.lean ====
/-
  The sixteen gathers a tile keeps in flight on one semaphore. Each is a stream of 128 transfers of one entry, so together
  they are ONE batch of 2048 transfers; transfer `t` takes entry `t` of the picked-entries scratch, position `t` of the
  position scratch and a piece of the share of `a`, and brings them back with the entry written. A gather issues the next
  128 (`wp_fire`); a wait takes 128 transfers' units (`wp_drain`); when all are waited for the scratch holds what the
  positions pick (`rows_join`).
-/
module

public import proofs.«01_k».proof.Proof.Setup
public import Idealize.ShloMosaic.Lib.Pointwise.Reshape

@[expose] public section

noncomputable section

namespace Cert.Proof.Rows

open Cert.KernelIdeal Cert.KernelIdeal.Gen
open Cert.Proof.Words Cert.Proof.Setup Cert.Proof.GatherBatch
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The transfers' counters within the run's resources. -/
abbrev EC : UEmb Counters (MT nD τ sig (HIx 1) (Elt F) ℕ UU ℕ) := countersEmb

/-- A program is itself followed by nothing. -/
theorem wp_of_bind_ret {α : Type} {p : Prog (TpuEff nD τ sig (Elt F) Λ₀ (tile d L).2) α} {Q : α → sProp 𝕄} :
    wp frame (wpE (defs₀ (F := F)) 𝒱₀ (tile d L) none) Set.univ (p >>= pure) Q
      ⊢ wp frame (wpE (defs₀ (F := F)) 𝒱₀ (tile d L) none) Set.univ p Q :=
  Entails.of_eq (by rw [bind_pure])

/-! ## The pieces of one gather -/

/-- Gather `g`'s source, destination and list, as the program cuts them. -/
abbrev gSrc : Memref sig .scVector .hbm S33554432 .f32 := aM.slice (Rect.unit (s := S33554432) ![0] S33554432.size inb_S33554432_S33554432_0) (fun _ => rfl)
abbrev gDst (o : ℕ) (h : ∀ a, (![o] : Fin 1 → ℕ) a + S128.size a ≤ S2048.size a) : Memref sig .scVector .vmem S128 .f32 :=
  valM.slice (Rect.unit (s := S2048) ![o] S128.size h) (fun _ => rfl)
abbrev gList (g : ℕ) (h : ∀ a, (![g, 0] : Fin 2 → ℕ) a + S1x128.size a ≤ S16x128.size a) : Memref sig .scVector .vmem S128 .i32 :=
  (posM.slice (Rect.unit (s := S16x128) ![g, 0] S1x128.size h) (fun _ => rfl)).squeeze S128 squeezes_S1x128_S128

theorem gSrc_emb (x : S33554432.Idx) : (gSrc.view.emb x : S33554432.Idx) = x := by
  funext a
  apply Fin.ext
  match a with
  | 0 =>
    show 0 + 1 * (x 0).val = (x 0).val
    omega

theorem gSrc_set : gSrc.view.set = (Finset.univ : Finset S33554432.Idx) :=
  Finset.eq_univ_of_forall fun x => Finset.mem_map.mpr ⟨x, Finset.mem_univ _, gSrc_emb x⟩

theorem gList_emb {g : ℕ} (hg : g < 16) (h) (x : S128.Idx) : ((gList g h).view.emb x : S16x128.Idx) = ix2 ⟨g, hg⟩ (x 0) := by
  have e : Shape.reshapeEquiv squeezes_S1x128_S128.numel_eq x = (ix2 (0 : Fin 1) (x 0) : S1x128.Idx) :=
    Shape.reshapeEquiv_eq_of_rowMajor _ (by rw [rowMajor_val1, rowMajor_val2 _ 128 rfl]; show 0 * 128 + (x 0).val = (x 0).val; omega)
  show Rect.emb (Rect.unit (s := S16x128) ![g, 0] S1x128.size h) (Shape.reshapeEquiv squeezes_S1x128_S128.numel_eq x) = _
  rw [e]
  funext a
  apply Fin.ext
  rw [Rect.emb_apply]
  match a with
  | 0 => show g + 1 * 0 = g; omega
  | 1 => show 0 + 1 * (x 0).val = (x 0).val; omega

theorem gRow_lt {o : ℕ} (h : ∀ a, (![o] : Fin 1 → ℕ) a + S128.size a ≤ S2048.size a) (j : Fin (S128.size gathers_S33554432_S128.axis')) : o + j.val < 2048 := by
  have h0 : o + 128 ≤ 2048 := h 0
  have hj : j.val < 128 := j.isLt
  omega

theorem gRow_emb {o : ℕ} (h) (j : Fin (S128.size gathers_S33554432_S128.axis')) (x : (S128.rowShape gathers_S33554432_S128.axis').Idx) :
    (((gDst o h).view.slice (S128.rowRect gathers_S33554432_S128.axis' j)).emb x : S2048.Idx) = ix1 ⟨o + j.val, by exact gRow_lt h j⟩ := by
  funext a
  apply Fin.ext
  have hx : (x (0 : Fin 1)).val < 1 := (x (0 : Fin 1)).isLt
  match a with
  | 0 =>
    show o + 1 * (j.val + 1 * (x (0 : Fin 1)).val) = o + j.val
    omega

theorem gRow_set {o : ℕ} (h) (j : Fin (S128.size gathers_S33554432_S128.axis')) :
    ((gDst o h).view.slice (S128.rowRect gathers_S33554432_S128.axis' j)).set = ({ix1 ⟨o + j.val, by exact gRow_lt h j⟩} : Finset S2048.Idx) := by
  ext i
  rw [Finset.mem_singleton]
  constructor
  · intro hi
    obtain ⟨x, -, rfl⟩ := Finset.mem_map.mp hi
    exact gRow_emb h j x
  · rintro rfl
    exact Finset.mem_map.mpr ⟨fun a => ⟨0, by match a with | 0 => exact Nat.one_pos⟩, Finset.mem_univ _, gRow_emb h j _⟩

/-! ## The batch -/

/-- Position `t` of the position scratch, counted row by row. -/
abbrev posIx (t : Fin 2048) : S16x128.Idx := ix2 ⟨t.val / 128, by omega⟩ ⟨t.val % 128, Nat.mod_lt _ (by decide)⟩

/-- What transfer `t` takes and brings back: its entry of the picked-entries scratch (at contents `fv`), its position (at
    contents `fp`), its piece of the share `q` of `a`. -/
def rowRes (q : PosShare TreeShare) (fa : Buf (Elt F) (aM.view.loc (tile d L))) (fp : Buf (Elt F) (posM.view.loc (tile d L)))
    (fv : Buf (Elt F) (valM.view.loc (tile d L))) (t : Fin 2048) : sProp 𝕄 :=
  iprop(((valM.view.loc (tile d L) ↦[({ix1 t} : Finset S2048.Idx)]{fullShare} fv)
    ∗ (posM.view.loc (tile d L) ↦[({posIx t} : Finset S16x128.Idx)]{fullShare} fp))
    ∗ (aM.view.loc (tile d L) ↦{pieceOf q 2048 (by decide) t} fa))

/-- The entries the positions `fp` pick. -/
def picks (fa : S33554432.Idx → F .f32) (fp : S16x128.Idx → BitVec 32) : S2048.Idx → F .f32 := fun i => aAt fa (fp (posIx (i 0)))

instance rowRes_storable (q : PosShare TreeShare) (fa : Buf (Elt F) (aM.view.loc (tile d L))) (fp : Buf (Elt F) (posM.view.loc (tile d L)))
    (fv : Buf (Elt F) (valM.view.loc (tile d L))) (t : Fin 2048) : Storable (upEmb : UEmb _ 𝕄) (rowRes d L q fa fp fv t) := by
  unfold rowRes; infer_instance

/-- The units one transfer is worth. -/
abbrev unitN : ℕ := (gDst 0 inb_S2048_S128_0).slice (S128.rowRect gathers_S33554432_S128.axis' ⟨0, by decide⟩) (S128.stride_rowRect _ _) |>.view.dmaCredit

/-- The batch of the 2048 transfers, `k` of them issued and `u` units waited for. -/
abbrev rowBatch (q : PosShare TreeShare) (fa : Buf (Elt F) (aM.view.loc (tile d L))) (fp : Buf (Elt F) (posM.view.loc (tile d L))) (k u : ℕ) : sProp 𝕄 :=
  Batch EC (tile d L) (.dma cc0_scratch3.sem) (default : HIx 1) unitN (rowRes d L q fa fp (picks fa fp)) k u

theorem rowRes_at (q : PosShare TreeShare) (fa : Buf (Elt F) (aM.view.loc (tile d L))) (fp : Buf (Elt F) (posM.view.loc (tile d L)))
    (fv : Buf (Elt F) (valM.view.loc (tile d L))) {t : Fin 2048} {v : S2048.Idx} {p : S16x128.Idx} (hv : ix1 t = v) (hp : posIx t = p) :
    rowRes d L q fa fp fv t = iprop(((valM.view.loc (tile d L) ↦[({v} : Finset S2048.Idx)]{fullShare} fv)
      ∗ (posM.view.loc (tile d L) ↦[({p} : Finset S16x128.Idx)]{fullShare} fp)) ∗ (aM.view.loc (tile d L) ↦{pieceOf q 2048 (by decide) t} fa)) := by
  subst hv hp; rfl

theorem posIx_nth {g : ℕ} (hg : g < 16) (hk : 128 * g + S128.size gathers_S33554432_S128.axis' ≤ 2048) (j : Fin (S128.size gathers_S33554432_S128.axis')) :
    posIx (nth hk j) = ix2 ⟨g, hg⟩ (S128.rowMajor.symm (j.cast (rfl : S128.size gathers_S33554432_S128.axis' = S128.numel)) 0) := by
  have hj : j.val < 128 := j.isLt
  have e : (S128.rowMajor.symm (j.cast (rfl : S128.size gathers_S33554432_S128.axis' = S128.numel)) 0).val = j.val :=
    (rowMajor_val1 _).symm.trans (congrArg Fin.val (Equiv.apply_symm_apply _ _))
  have e1 : (nth hk j).val / 128 = g := by rw [nth_val]; omega
  have e2 : (nth hk j).val % 128 = j.val := by rw [nth_val]; omega
  funext a
  apply Fin.ext
  match a with
  | 0 => exact e1
  | 1 => exact e2.trans e.symm

/-- The entry a transfer writes is the one its position picks. -/
theorem gRow_write {fa : Buf (Elt F) (aM.view.loc (tile d L))} {fp : Buf (Elt F) (posM.view.loc (tile d L))} {fv : Buf (Elt F) (valM.view.loc (tile d L))}
    (g : ℕ) (hg : g < 16) (hk : 128 * g + S128.size gathers_S33554432_S128.axis' ≤ 2048) {h1 : ∀ a, (![128 * g] : Fin 1 → ℕ) a + S128.size a ≤ S2048.size a}
    {h2 : ∀ a, (![g, 0] : Fin 2 → ℕ) a + S1x128.size a ≤ S16x128.size a} {hn : S128.numel = S128.size gathers_S33554432_S128.axis'}
    {hin : ∀ x, ((gList g h2).view.read (Elt F) fp x).toNat < S33554432.size gathers_S33554432_S128.axis} (j : Fin (S128.size gathers_S33554432_S128.axis')) :
    (((gDst (128 * g) h1).view.slice (S128.rowRect gathers_S33554432_S128.axis' j)).write (Elt F) fv
        (fun i => gSrc.view.read (Elt F) fa (gathers_S33554432_S128.rowIdx (SparseCore.rows ((gList g h2).view.read (Elt F) fp) hn hin j) i)) Finset.univ)
      (ix1 ⟨128 * g + j.val, gRow_lt h1 j⟩) = picks fa fp (ix1 ⟨128 * g + j.val, gRow_lt h1 j⟩) := by
  have hmem : (ix1 ⟨128 * g + j.val, gRow_lt h1 j⟩ : S2048.Idx) ∈ ((gDst (128 * g) h1).view.slice (S128.rowRect gathers_S33554432_S128.axis' j)).set := by
    rw [gRow_set]; exact Finset.mem_singleton_self _
  obtain ⟨x, -, ex⟩ := Finset.mem_map.mp hmem
  have key : ∀ i : S2048.Idx, i = ix1 ⟨128 * g + j.val, gRow_lt h1 j⟩ → ∀ w : (S128.rowShape gathers_S33554432_S128.axis').Idx → F .f32,
      ∀ x, ((gDst (128 * g) h1).view.slice (S128.rowRect gathers_S33554432_S128.axis' j)).emb x = i →
      (((gDst (128 * g) h1).view.slice (S128.rowRect gathers_S33554432_S128.axis' j)).write (Elt F) fv w Finset.univ) i = w x := by
    intro i _ w x hx
    subst hx
    exact (View.write_emb_of_mem _ _ (Finset.mem_univ _)).trans (cast_eq _ _)
  refine (key _ rfl _ _ ex).trans ?_
  rw [View.read_apply]
  refine (cast_eq _ _).trans ?_
  rw [gSrc_emb]
  unfold picks aAt
  refine congrArg fa ((eq_ix1 _).trans (congrArg ix1 (Fin.ext ?_)))
  have e1 : (gathers_S33554432_S128.rowIdx (SparseCore.rows ((gList g h2).view.read (Elt F) fp) hn hin j) x gathers_S33554432_S128.axis).val
      = (SparseCore.rows ((gList g h2).view.read (Elt F) fp) hn hin j).val := congrArg Fin.val (Shape.Gathers.rowIdx_axis _ _ _)
  refine e1.trans ?_
  have e2 : (gList g h2).view.read (Elt F) fp (S128.rowMajor.symm (j.cast hn.symm)) = fp (posIx (nth hk j)) := by
    rw [View.read_apply]
    refine (cast_eq _ _).trans (congrArg fp ?_)
    rw [gList_emb hg, posIx_nth hg]
  have e3 : (nth hk j) = (ix1 ⟨128 * g + j.val, gRow_lt h1 j⟩ : S2048.Idx) 0 := Fin.ext (nth_val _ _)
  have e4 : (SparseCore.rows ((gList g h2).view.read (Elt F) fp) hn hin j).val = (fp (posIx (nth hk j)) : BitVec 32).toNat := by
    have e := congrArg (fun w : BitVec 32 => w.toNat) e2
    exact e
  have e5 : (fp (posIx (nth hk j)) : BitVec 32).toNat < 33554432 := e4 ▸ (SparseCore.rows ((gList g h2).view.read (Elt F) fp) hn hin j).isLt
  rw [e4, ← e3]
  exact (Nat.mod_eq_of_lt e5).symm

set_option maxHeartbeats 1000000 in
/-- One gather: the next 128 transfers are issued. -/
theorem wp_fire {q : PosShare TreeShare} {fa : Buf (Elt F) (aM.view.loc (tile d L))} {fp : Buf (Elt F) (posM.view.loc (tile d L))} {fv : Buf (Elt F) (valM.view.loc (tile d L))}
    (hfp : ∀ x : S16x128.Idx, (fp x : BitVec 32).toNat < 33554432) (g : ℕ) (hg : g < 16) {h1 : ∀ a, (![128 * g] : Fin 1 → ℕ) a + S128.size a ≤ S2048.size a}
    {h2 : ∀ a, (![g, 0] : Fin 2 → ℕ) a + S1x128.size a ≤ S16x128.size a} {hsrc : gSrc.view.WordExact} {he : EltTy.f32.bits = 32} {hsp : (Space.hbm : Space) = .hbm ∨ Space.hbm = .shared}
    {hr : S33554432.StreamRows 0} {Q : PUnit → sProp 𝕄} :
    iprop(rowBatch d L q fa fp (128 * g) 0 ∗ bigSep (pending (128 * g)) (rowRes d L q fa fp fv))
      ⊢ iprop((iprop(rowBatch d L q fa fp (128 * g + 128) 0 ∗ bigSep (pending (128 * g + 128)) (rowRes d L q fa fp fv)) -∗ Q ⟨⟩)
        -∗ wp frame (wpE (defs₀ (F := F)) 𝒱₀ (tile d L) none) Set.univ
            (SparseCore.enqueueIndirectGather rfl gSrc (gDst (128 * g) h1) gathers_S33554432_S128 (gList g h2) rfl cc0_scratch3.sem hsrc he hsp hr) Q) := by
  have hk : 128 * g + S128.size gathers_S33554432_S128.axis' ≤ 2048 := by show 128 * g + 128 ≤ 2048; omega
  have hval : ∀ j, (ix1 (nth hk j) : S2048.Idx) = ix1 ⟨128 * g + j.val, gRow_lt h1 j⟩ := fun j => congrArg ix1 (Fin.ext (nth_val _ _))
  have hpos : ∀ j, posIx (nth hk j) = ix2 ⟨g, hg⟩ (S128.rowMajor.symm (j.cast (rfl : S128.size gathers_S33554432_S128.axis' = S128.numel)) 0) := fun j =>
    posIx_nth hg hk j
  iintro H Hk
  iapply (wp_of_bind_ret d L)
  iapply (wp_gatherIntoBatch EC 𝒱₀ (tile d L) none (defs := defs₀ (F := F)) (src := gSrc) (dst := gDst (128 * g) h1) (hg := gathers_S33554432_S128) (offs := gList g h2)
    (n := 2048) (qo := fullShare) (fs := fa) (fd := fv) (fo := fp) (qk := fun j => pieceOf q 2048 (by decide) (nth hk j))
    (default : HIx 1) unitN (fun j => rfl) (k := 128 * g) (o := 128) rfl hk
    (D := rowRes d L q fa fp (picks fa fp)) (R := rowRes d L q fa fp fv) ?hin ?hgive ?htake) $$ H
  case hin =>
    intro x
    rw [View.read_apply]
    exact hfp _
  case hgive =>
    intro j
    rw [gRow_set, gSrc_set, gList_emb hg]
    exact Entails.of_eq (rowRes_at d L q fa fp fv (hval j) (hpos j))
  case htake =>
    intro j
    rw [gRow_set, gSrc_set, gList_emb hg]
    refine BIBase.Entails.trans ?_ (Entails.of_eq (rowRes_at d L q fa fp (picks fa fp) (hval j) (hpos j)).symm)
    refine sep_mono_left (sep_mono_left (Entails.of_eq (pointsTo_congr fun i hi => ?_)))
    obtain rfl := Finset.mem_singleton.mp hi
    exact gRow_write d L g hg hk j
  · iintro H
    iapply (le_wp_ret frame (wpE (defs₀ (F := F)) 𝒱₀ (tile d L) none) Set.univ _ Q)
    iapply Hk $$ H

/-! ## All the transfers together -/

/-- The two scratches and the share of `a` are the transfers' pieces. -/
theorem rows_split (q : PosShare TreeShare) (fa : Buf (Elt F) (aM.view.loc (tile d L))) (fp : Buf (Elt F) (posM.view.loc (tile d L)))
    (fv : Buf (Elt F) (valM.view.loc (tile d L))) :
    (bigSep Finset.univ (rowRes d L q fa fp fv) : sProp 𝕄) = iprop((valPts d L fv ∗ posPts d L fp) ∗ (aM.view.loc (tile d L) ↦{q} fa)) := by
  have e1 : (valPts d L fv : sProp 𝕄) = bigSep Finset.univ fun t : Fin 2048 => valM.view.loc (tile d L) ↦[({ix1 t} : Finset S2048.Idx)]{fullShare} fv := by
    have hu : (Finset.univ : Finset S2048.Idx) = Finset.univ.biUnion fun t : Fin 2048 => {ix1 t} := by
      ext i
      simp only [Finset.mem_univ, Finset.mem_biUnion, Finset.mem_singleton, true_and, true_iff]
      exact ⟨i 0, eq_ix1 i⟩
    refine (congrArg (fun S : Finset S2048.Idx => (valM.view.loc (tile d L) ↦[S]{fullShare} fv : sProp 𝕄)) hu).trans ?_
    exact pointsTo_biUnion Finset.univ _ fun t _ t' _ h => Finset.disjoint_singleton.mpr fun e => h (congrFun e 0)
  have e2 : (posPts d L fp : sProp 𝕄) = bigSep Finset.univ fun t : Fin 2048 => posM.view.loc (tile d L) ↦[({posIx t} : Finset S16x128.Idx)]{fullShare} fp := by
    have hu : (Finset.univ : Finset S16x128.Idx) = Finset.univ.biUnion fun t : Fin 2048 => {posIx t} := by
      ext i
      simp only [Finset.mem_univ, Finset.mem_biUnion, Finset.mem_singleton, true_and, true_iff]
      have h0 : (i 0).val < 16 := (i 0).isLt
      have h1 : (i 1).val < 128 := (i 1).isLt
      refine ⟨⟨128 * (i 0).val + (i 1).val, by omega⟩, ?_⟩
      funext a
      apply Fin.ext
      match a with
      | 0 => show (i 0).val = (128 * (i 0).val + (i 1).val) / 128; omega
      | 1 => show (i 1).val = (128 * (i 0).val + (i 1).val) % 128; omega
    refine (congrArg (fun S : Finset S16x128.Idx => (posM.view.loc (tile d L) ↦[S]{fullShare} fp : sProp 𝕄)) hu).trans ?_
    refine pointsTo_biUnion Finset.univ _ fun t _ t' _ h => Finset.disjoint_singleton.mpr fun e => h (Fin.ext ?_)
    have h0 : t.val / 128 = t'.val / 128 := congrArg Fin.val (congrFun e 0)
    have h1 : t.val % 128 = t'.val % 128 := congrArg Fin.val (congrFun e 1)
    omega
  have e3 := pointsTo_piecesOf (nD := nD) (τ := τ) (sig := sig) (Ix := HIx 1) (Name := ℕ) (U := UU) (Lvl := ℕ) (ℓ := aM.view.loc (tile d L)) Finset.univ fa (show 0 < 2048 by decide) q
  rw [e1, e2, e3, ← bigSep_sep', ← bigSep_sep']
  rfl

/-- The batch with nothing issued, from the semaphore at zero. -/
theorem rowBatch_alloc (q : PosShare TreeShare) (fa : Buf (Elt F) (aM.view.loc (tile d L))) (fp : Buf (Elt F) (posM.view.loc (tile d L))) :
    (semVal (tile d L, .dma cc0_scratch3.sem) 0 : sProp 𝕄) ⊢ |={Set.univ}=> rowBatch d L q fa fp 0 0 :=
  batch_alloc' EC (tile d L) _ _ _

/-- One wait: 128 transfers' units. -/
theorem wp_drain {q : PosShare TreeShare} {fa : Buf (Elt F) (aM.view.loc (tile d L))} {fp : Buf (Elt F) (posM.view.loc (tile d L))}
    (g : ℕ) (hg : g < 16) {o : ℕ} {h1 : ∀ a, (![o] : Fin 1 → ℕ) a + S128.size a ≤ S2048.size a} {hsrc : gSrc.view.WordExact} {hdst : (gDst o h1).view.WordExact}
    {O : CellTallies nD τ sig (HIx 1)} {W : Waits sig (HIx 1)} {Q : PUnit → sProp 𝕄} :
    iprop(rowBatch d L q fa fp 2048 (g * (128 * unitN)) ∗ owes (tile d L) O W ∗ MayWait (tile d L) (.dma cc0_scratch3.sem) (default : HIx 1) O)
      ⊢ iprop((iprop(rowBatch d L q fa fp 2048 ((g + 1) * (128 * unitN)) ∗ owes (tile d L) O (insert (SemLoc.dma cc0_scratch3.sem, (default : HIx 1)) W)) -∗ Q ⟨⟩)
        -∗ wp frame (wpE (defs₀ (F := F)) 𝒱₀ (tile d L) none) Set.univ (SparseCore.waitIndirectGather cc0_scratch3.sem gSrc (gDst o h1) hsrc hdst) Q) := by
  have hu : g * (128 * unitN) + 128 * unitN ≤ unitN * 2048 := by
    generalize unitN = u
    have := Nat.mul_le_mul_right (128 * u) (show g + 1 ≤ 16 from hg)
    rw [Nat.add_mul] at this
    omega
  rw [Nat.add_mul, Nat.one_mul]
  iintro H Hk
  iapply (wp_of_bind_ret d L)
  iapply (wp_waitBatchMulO (defs := defs₀ (F := F)) EC 𝒱₀ (tile d L) none (default : HIx 1) 128 (srcw := gSrc) (dstw := gDst o h1) ?hJ hu) $$ H
  case hJ => rfl
  iintro H
  iapply (le_wp_ret frame (wpE (defs₀ (F := F)) 𝒱₀ (tile d L) none) Set.univ _ Q)
  iapply Hk $$ H

/-- All waited for: the scratch holds what the positions pick. -/
theorem rowBatch_collect (q : PosShare TreeShare) (fa : Buf (Elt F) (aM.view.loc (tile d L))) (fp : Buf (Elt F) (posM.view.loc (tile d L))) :
    (rowBatch d L q fa fp 2048 (16 * (128 * unitN)) : sProp 𝕄)
      ⊢ |={Set.univ}=> iprop(((valPts d L (picks fa fp) ∗ posPts d L fp) ∗ (aM.view.loc (tile d L) ↦{q} fa)) ∗ semVal (tile d L, .dma cc0_scratch3.sem) 0) := by
  rw [show 16 * (128 * unitN) = unitN * 2048 by omega, ← rows_split]
  exact batch_collect' EC (tile d L) (View.dmaCredit_pos _ (by decide))

end Cert.Proof.Rows
-- ==== Proof.Copies.lean ====
/-
  The two copies of a trip: the rows of `z` into the scratch, the finished entries out to the result. Each is started and
  waited for at once.
-/
module

public import proofs.«01_k».proof.Proof.Rows

@[expose] public section

noncomputable section

namespace Cert.Proof.Copies

open Cert.KernelIdeal Cert.KernelIdeal.Gen
open Cert.Proof.Words Cert.Proof.Setup Cert.Proof.Rows
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The rows a tile handles. -/
def tileSet (L : grid0.Coords) : Finset S1048576.Idx := Finset.univ.filter fun i => base L 0 ≤ (i 0).val ∧ (i 0).val < base L 16

/-- Of the tile's rows those below `n` hold the problem's result. -/
def OutDone (zf : S16777216.Idx → F .f32) (af : S33554432.Idx → F .f32) (n : ℕ) (f : S1048576.Idx → F .f32) : Prop :=
  ∀ i : Fin 1048576, base L 0 ≤ i.val → i.val < n → f (ix1 i) = outV zf af i.val

/-- The part of `z` a trip fetches, and the part of the result it writes, as the program cuts them. -/
abbrev zCut (t : Fin k0_t1_loop.trips) : Memref sig .scVector .hbm S32768 .f32 :=
  zM.slice (Rect.unit (s := S16777216) (k0_off1 L t) S32768.size (k0_off1_inb L t)) (fun _ => rfl)
abbrev oCut (t : Fin k0_t1_loop.trips) : Memref sig .scVector .hbm S2048 .f32 :=
  oM.slice (Rect.unit (s := S1048576) (k0_off11 L t) S2048.size (k0_off11_inb L t)) (fun _ => rfl)

theorem trips1 : k0_t1_loop.trips = 16 := by decide +kernel

theorem base_lt' (t : Fin k0_t1_loop.trips) : base L t.val + 2048 ≤ 1048576 := base_lt L (trips1 ▸ t.isLt)

theorem zCut_emb (t : Fin k0_t1_loop.trips) (j : S32768.Idx) :
    ((zCut L t).view.emb j : S16777216.Idx) = ix1 ⟨(16 * base L t.val + (j 0).val) % 16777216, Nat.mod_lt _ (by decide)⟩ := by
  have hb := base_lt' L t
  have hj : (j 0).val < 32768 := (j 0).isLt
  funext a
  apply Fin.ext
  show (Rect.emb (Rect.unit (s := S16777216) (k0_off1 L t) S32768.size (k0_off1_inb L t)) j a : ℕ) = _
  rw [Rect.emb_apply]
  match a with
  | 0 =>
    have e : k0_off1 L t 0 = 16 * base L t.val := by
      rw [k0_off1_eq]
      unfold base
      show 1048576 * (L 1).val + 524288 * (L 0).val + 32768 * t.val = _
      omega
    show k0_off1 L t 0 + 1 * (j 0).val = (16 * base L t.val + (j 0).val) % 16777216
    rw [e]
    omega

theorem oCut_emb (t : Fin k0_t1_loop.trips) (j : S2048.Idx) :
    ((oCut L t).view.emb j : S1048576.Idx) = ix1 ⟨base L t.val + (j 0).val, by have := base_lt' L t; have hj : (j 0).val < 2048 := (j 0).isLt; omega⟩ := by
  funext a
  apply Fin.ext
  show (Rect.emb (Rect.unit (s := S1048576) (k0_off11 L t) S2048.size (k0_off11_inb L t)) j a : ℕ) = _
  rw [Rect.emb_apply]
  match a with
  | 0 =>
    have e : k0_off11 L t 0 = base L t.val := by
      rw [k0_off11_eq]
      rfl
    show k0_off11 L t 0 + 1 * (j 0).val = base L t.val + (j 0).val
    rw [e]
    omega

theorem oCut_sub (t : Fin k0_t1_loop.trips) : (oCut L t).view.set ⊆ tileSet L := by
  intro i hi
  obtain ⟨j, -, rfl⟩ := Finset.mem_map.mp hi
  have ht : t.val < 16 := trips1 ▸ t.isLt
  have hj : (j 0).val < 2048 := (j 0).isLt
  refine Finset.mem_filter.mpr ⟨Finset.mem_univ _, ?_⟩
  have e : (((oCut L t).view.emb j : S1048576.Idx) 0).val = base L t.val + (j 0).val := congrArg (fun x : S1048576.Idx => (x 0).val) (oCut_emb L t j)
  rw [e]
  unfold base
  omega

/-- The fetched scratch holds the trip's rows of `z`. -/
theorem zread_write (t : Fin k0_t1_loop.trips) {zf : Buf (Elt F) (zM.view.loc (tile d L))} {fr : Buf (Elt F) (rowsM.view.loc (tile d L))} :
    ZRead (base L t.val) zf (rowsM.view.write (Elt F) fr ((zCut L t).view.read (Elt F) zf) Finset.univ) := by
  intro j
  have e : rowsM.view.write (Elt F) fr ((zCut L t).view.read (Elt F) zf) Finset.univ (ix1 j) = (zCut L t).view.read (Elt F) zf (ix1 j) :=
    congrFun (View.write_whole_univ cc0_scratch0 fr _) (ix1 j)
  rw [e, View.read_apply]
  refine (cast_eq _ _).trans ?_
  rw [zCut_emb]

/-- Writing a trip's finished entries: the tile's rows are done up to the next trip's. -/
theorem outDone_write (t : Fin k0_t1_loop.trips) {zf : S16777216.Idx → F .f32} {af : S33554432.Idx → F .f32} {fo : Buf (Elt F) (oM.view.loc (tile d L))}
    {g : Buf (Elt F) (valM.view.loc (tile d L))} (hg : ∀ j : Fin 2048, g (ix1 j) = outV zf af (base L t.val + j.val)) (ho : OutDone L zf af (base L t.val) fo) :
    OutDone L zf af (base L (t.val + 1)) ((oCut L t).view.write (Elt F) fo (valM.view.read (Elt F) g) Finset.univ) := by
  intro i hlo hhi
  have hn : base L (t.val + 1) = base L t.val + 2048 := by unfold base; omega
  rw [hn] at hhi
  by_cases hin : base L t.val ≤ i.val
  · have hlt : i.val - base L t.val < 2048 := by omega
    have e : ix1 i = (oCut L t).view.emb (ix1 (⟨i.val - base L t.val, hlt⟩ : Fin 2048)) :=
      ((oCut_emb L t _).trans (congrArg ix1 (Fin.ext (by show base L t.val + (i.val - base L t.val) = i.val; omega)))).symm
    have e1 : (oCut L t).view.write (Elt F) fo (valM.view.read (Elt F) g) Finset.univ (ix1 i) = valM.view.read (Elt F) g (ix1 (⟨i.val - base L t.val, hlt⟩ : Fin 2048)) := by
      rw [e, View.write_emb_of_mem _ _ (Finset.mem_univ _)]
      exact cast_eq _ _
    rw [e1, View.read_apply]
    refine (cast_eq _ _).trans ((hg ⟨i.val - base L t.val, hlt⟩).trans ?_)
    show outV zf af (base L t.val + (i.val - base L t.val)) = _
    congr 1
    omega
  · rw [View.write_of_not_mem]
    · exact ho i hlo (by omega)
    · intro hm
      obtain ⟨j, -, e⟩ := Finset.mem_map.mp hm
      have e0 : base L t.val + (j 0).val = i.val := congrArg (fun x : S1048576.Idx => (x 0).val) ((oCut_emb L t j).symm.trans e)
      omega

/-- The fetch and its wait. -/
theorem wp_fetch (t : Fin k0_t1_loop.trips) {q : PosShare TreeShare} {zf : Buf (Elt F) (zM.view.loc (tile d L))} {fr : Buf (Elt F) (rowsM.view.loc (tile d L))}
    {h1 h3 : (zCut L t).view.WordExact} {h2 h4 : rowsM.view.WordExact} {h5 : DmaTarget.Typed (nD := nD) Space.hbm (SemLoc.dma cc0_scoped0.sem) (DmaTarget.here (τ := τ) (p := (tile d L).2) rowsM)}
    {O : CellTallies nD τ sig (HIx 1)} {W : Waits sig (HIx 1)} {Q : PUnit → sProp 𝕄} :
    iprop((zM.view.loc (tile d L) ↦{q} zf) ∗ rowsPts d L fr ∗ semVal (tile d L, .dma cc0_scoped0.sem) 0 ∗ owes (tile d L) O W ∗ MayWait (tile d L) (.dma cc0_scoped0.sem) (default : HIx 1) O)
      ⊢ iprop((∀ zb, ⌜ZRead (base L t.val) zf zb⌝ -∗ iprop((zM.view.loc (tile d L) ↦{q} zf) ∗ rowsPts d L zb ∗ semVal (tile d L, .dma cc0_scoped0.sem) 0
            ∗ owes (tile d L) O (insert (SemLoc.dma cc0_scoped0.sem, (default : HIx 1)) W)) -∗ Q ⟨⟩)
        -∗ wp frame (wpE (defs₀ (F := F)) 𝒱₀ (tile d L) none) Set.univ (Prog.lift (.enqueueDma (zCut L t) (.here rowsM) (.dma cc0_scoped0.sem) h1 h2 h5))
            fun _ => wp frame (wpE (defs₀ (F := F)) 𝒱₀ (tile d L) none) Set.univ (Prog.lift (.waitDma2 cc0_scoped0.sem (zCut L t) rowsM h3 h4)) Q) := by
  iintro ⟨Hz, Hr, Hs, HO, Hw⟩ Hk
  ihave Hz := (pointsTo_split_subset (q := q) (f := zf) (S := Finset.univ) (Finset.subset_univ (zCut L t).view.set)).1 $$ Hz
  icases Hz with ⟨Hz, Hz'⟩
  iapply (Transfers.wp_dmaLocal EC 𝒱₀ (tile d L) none (src := zCut L t) (dst := rowsM) (fs := zf) (fd := fr) (q := q) (Sd := Finset.univ) (default : HIx 1)
    (rowsM.view.amount (SemLoc.dma cc0_scoped0.sem)) rfl (by decide) (Finset.subset_univ _)) $$ [Hz Hr Hs]
  · isplitl [Hz]; · iexact Hz
    isplitl [Hr]; · iexact Hr
    iexact Hs
  iintro Hfl
  iapply (le_wp_ret _ _ _ _ _)
  iapply (Transfers.wp_waitLocalO EC 𝒱₀ (tile d L) none (default : HIx 1) (dstw := rowsM) (N := rowsM.view.amount (SemLoc.dma cc0_scoped0.sem)) rfl) $$ [Hfl HO Hw]
  · isplitl [Hfl]; · iexact Hfl
    isplitl [HO]; · iexact HO
    iexact Hw
  iintro ⟨⟨Hr, Hz⟩, Hs, HO⟩
  iapply (le_wp_ret _ _ _ _ _)
  ihave Hz := (pointsTo_split_subset (q := q) (f := zf) (S := Finset.univ) (Finset.subset_univ (zCut L t).view.set)).2 $$ [Hz Hz']
  · isplitl [Hz] <;> iassumption
  iapply Hk $$ [] [Hz Hr Hs HO]
  · ipureintro
    exact zread_write d L t (fr := fr)
  · isplitl [Hz]; · iexact Hz
    isplitl [Hr]; · iexact Hr
    isplitl [Hs]; · iexact Hs
    iexact HO

/-- The write-back and its wait. -/
theorem wp_send (t : Fin k0_t1_loop.trips) {zf : S16777216.Idx → F .f32} {af : S33554432.Idx → F .f32} {fo : Buf (Elt F) (oM.view.loc (tile d L))}
    {g : Buf (Elt F) (valM.view.loc (tile d L))} (hg : ∀ j : Fin 2048, g (ix1 j) = outV zf af (base L t.val + j.val)) (ho : OutDone L zf af (base L t.val) fo)
    {h1 h3 : valM.view.WordExact} {h2 h4 : (oCut L t).view.WordExact} {h5 : DmaTarget.Typed (nD := nD) Space.vmem (SemLoc.dma cc0_scoped1.sem) (DmaTarget.here (τ := τ) (p := (tile d L).2) (oCut L t))}
    {O : CellTallies nD τ sig (HIx 1)} {W : Waits sig (HIx 1)} {Q : PUnit → sProp 𝕄} :
    iprop(valPts d L g ∗ (oM.view.loc (tile d L) ↦[tileSet L]{fullShare} fo) ∗ semVal (tile d L, .dma cc0_scoped1.sem) 0 ∗ owes (tile d L) O W ∗ MayWait (tile d L) (.dma cc0_scoped1.sem) (default : HIx 1) O)
      ⊢ iprop((∀ fo', ⌜OutDone L zf af (base L (t.val + 1)) fo'⌝ -∗ iprop(valPts d L g ∗ (oM.view.loc (tile d L) ↦[tileSet L]{fullShare} fo') ∗ semVal (tile d L, .dma cc0_scoped1.sem) 0
            ∗ owes (tile d L) O (insert (SemLoc.dma cc0_scoped1.sem, (default : HIx 1)) W)) -∗ Q ⟨⟩)
        -∗ wp frame (wpE (defs₀ (F := F)) 𝒱₀ (tile d L) none) Set.univ (Prog.lift (.enqueueDma valM (.here (oCut L t)) (.dma cc0_scoped1.sem) h1 h2 h5))
            fun _ => wp frame (wpE (defs₀ (F := F)) 𝒱₀ (tile d L) none) Set.univ (Prog.lift (.waitDma2 cc0_scoped1.sem valM (oCut L t) h3 h4)) Q) := by
  have hs : valM.view.set = (Finset.univ : Finset S2048.Idx) := View.set_whole _
  have hv : (valPts d L g : sProp 𝕄) = (valM.view.loc (tile d L) ↦[valM.view.set]{fullShare} g) := by rw [hs]
  rw [hv]
  iintro ⟨Hv, Ho, Hs, HO, Hw⟩ Hk
  iapply (Transfers.wp_dmaLocal EC 𝒱₀ (tile d L) none (src := valM) (dst := oCut L t) (fs := g) (fd := fo) (q := fullShare) (Sd := tileSet L) (default : HIx 1)
    ((oCut L t).view.amount (SemLoc.dma cc0_scoped1.sem)) rfl (View.dmaCredit_pos _ (by decide)) (oCut_sub L t)) $$ [Hv Ho Hs]
  · isplitl [Hv]; · iexact Hv
    isplitl [Ho]; · iexact Ho
    iexact Hs
  iintro Hfl
  iapply (le_wp_ret _ _ _ _ _)
  iapply (Transfers.wp_waitLocalO EC 𝒱₀ (tile d L) none (default : HIx 1) (dstw := oCut L t) (N := (oCut L t).view.amount (SemLoc.dma cc0_scoped1.sem)) rfl) $$ [Hfl HO Hw]
  · isplitl [Hfl]; · iexact Hfl
    isplitl [HO]; · iexact HO
    iexact Hw
  iintro ⟨⟨Ho, Hv⟩, Hs, HO⟩
  iapply (le_wp_ret _ _ _ _ _)
  iapply Hk $$ [] [Hv Ho Hs HO]
  · ipureintro
    exact outDone_write d L t hg ho
  · isplitl [Hv]; · iexact Hv
    isplitl [Ho]; · iexact Ho
    isplitl [Hs]; · iexact Hs
    iexact HO

end Cert.Proof.Copies
-- ==== Proof.Scale.lean ====
/-
  The picked entries times the constant 0.999, sixteen lanes at a trip: load the lanes, multiply, store them back.
-/
module

public import proofs.«01_k».proof.Proof.Setup
public import Idealize.ShloMosaic.Lib.Pointwise.Reshape

@[expose] public section

noncomputable section

namespace Cert.Proof.Scale

open Cert.KernelIdeal Cert.KernelIdeal.Gen
open Cert.Proof.Words Cert.Proof.Setup
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The picked-entries scratch with its first `n` entries scaled. -/
def scaleInv (g : ℕ → F .f32) (n : ℕ) : sProp 𝕄 :=
  iprop(∃ f, valPts d L f ∗ ⌜Scaled g n f⌝)

theorem trips3 : k0_t3_loop.trips = 128 := by decide +kernel

/-- Lane `i` of the sixteen entries from `o` on is entry `o + i`. -/
theorem lane_emb {o : ℕ} {off : Fin 1 → ℕ} (hoff : off = ![o]) {inb : ∀ a, off a + S16.size a ≤ S2048.size a} (i : S16.Idx) (h : o + (i 0).val < 2048) :
    (valM.access (Rect.unit (s := S2048) off S16.size inb)).emb i = (ix1 ⟨o + (i 0).val, h⟩ : S2048.Idx) := by
  subst hoff
  funext a
  apply Fin.ext
  show (Rect.emb (Rect.unit (s := S2048) ![o] S16.size inb) i a : ℕ) = _
  rw [Rect.emb_apply]
  match a with
  | 0 => show o + 1 * (i 0).val = o + (i 0).val; omega

/-- Storing sixteen scaled entries: the next sixteen are scaled. -/
theorem scaled_store {g : ℕ → F .f32} {k : ℕ} (hk : k < 128) {off : Fin 1 → ℕ} (hoff : off = ![16 * k]) {inb : ∀ a, off a + S16.size a ≤ S2048.size a}
    {f : Buf (Elt F) (valM.view.loc (tile d L))} (hf : Scaled g (16 * k) f) {x w : Vec F S16 .f32}
    (hx : ∀ i, x i = f ((valM.access (Rect.unit (s := S2048) off S16.size inb)).emb i)) (hw : ∀ i, w i = FloatOps.mulf (x i) scale) :
    Scaled g (16 * (k + 1)) ((valM.access (Rect.unit (s := S2048) off S16.size inb)).write (Elt F) f w Finset.univ) := by
  intro j
  by_cases hin : 16 * k ≤ j.val ∧ j.val < 16 * k + 16
  · have hlt : j.val - 16 * k < 16 := by omega
    have e : ix1 j = (valM.access (Rect.unit (s := S2048) off S16.size inb)).emb (ix1 (⟨j.val - 16 * k, hlt⟩ : Fin 16)) :=
      ((lane_emb hoff (ix1 (⟨j.val - 16 * k, hlt⟩ : Fin 16)) (by show 16 * k + (j.val - 16 * k) < 2048; omega)).trans
        (congrArg ix1 (Fin.ext (by show 16 * k + (j.val - 16 * k) = j.val; omega)))).symm
    rw [if_pos (by omega)]
    have hg : f (ix1 j) = g j.val := by rw [hf j, if_neg (by omega)]
    rw [← hg, e, View.write_emb_of_mem _ _ (Finset.mem_univ _)]
    refine (cast_eq _ _).trans ?_
    rw [hw, hx]
  · rw [View.write_of_not_mem]
    · rw [hf j]
      by_cases h : j.val < 16 * k
      · rw [if_pos h, if_pos (by omega)]
      · rw [if_neg h, if_neg (by omega)]
    · intro hm
      obtain ⟨i, -, e⟩ := Finset.mem_map.mp hm
      have hi : (i 0).val < 16 := (i 0).isLt
      have e' := (lane_emb hoff i (by omega)).symm.trans e
      have e0 : 16 * k + (i 0).val = j.val := congrArg (fun x : S2048.Idx => (x 0).val) e'
      omega

set_option maxHeartbeats 1000000 in
/-- One trip of the scaling loop. -/
theorem wp_scaleRow (g : ℕ → F .f32) (k : Fin k0_t3_loop.trips) (acc : BitVec 32) :
    (scaleInv d L g (16 * k.val) : sProp 𝕄)
      ⊢ wp frame (wpE (defs₀ (F := F)) 𝒱₀ (tile d L) none) Set.univ
          (k0_t3_body L zM (Memref.isWhole_whole _) aM (Memref.isWhole_whole _) oM (Memref.isWhole_whole _) rowsM (Memref.isWhole_whole _)
            posM (Memref.isWhole_whole _) valM (Memref.isWhole_whole _) cc0_scratch3 cc0_scoped0 cc0_scoped1 k acc)
          fun _ => scaleInv d L g (16 * (k.val + 1)) := by
  have hk : k.val < 128 := trips3 ▸ k.isLt
  unfold k0_t3_body scaleInv
  simp only [wp_bind]
  iintro ⟨%f, Hf, %hf⟩
  iapply (wp_load (defs := defs₀ (F := F)) 𝒱₀ (tile d L) none Set.univ (m := valM) (S := Finset.univ) (f := f) (Finset.subset_univ _)) $$ Hf
  iintro Hf
  iapply (le_wp_ret _ _ _ _ _)
  iapply (wp_load (defs := defs₀ (F := F)) 𝒱₀ (tile d L) none Set.univ (m := valM) (S := Finset.univ) (f := f) (Finset.subset_univ _)) $$ Hf
  iintro Hf
  iapply (le_wp_ret _ _ _ _ _)
  iapply (wp_store (defs := defs₀ (F := F)) 𝒱₀ (tile d L) none Set.univ (m := valM) (r := Rect.unit (s := S2048) (k0_off10 k) S16.size (k0_off10_inb k)) (S := Finset.univ) (f := f) (Finset.subset_univ _)) $$ Hf
  iintro Hf
  iapply (le_wp_ret _ _ _ _ _)
  iapply (le_wp_ret _ _ _ _ _)
  iexists _
  isplitl [Hf]
  · iexact Hf
  · ipureintro
    refine scaled_store d L hk (k0_off10_eq k) hf (x := View.readAt (Elt F) valM.view (Rect.unit (s := S2048) (k0_off10 k) S16.size (k0_off10_inb k)).toLoadRect f) ?hx ?hw
    case hw => intro i; rfl
    case hx => intro i; exact (View.read_apply _ _).trans (cast_eq _ _)

/-- The scaling loop: every entry scaled. -/
theorem wp_scale (g : ℕ → F .f32) {Q : BitVec 32 → sProp 𝕄} :
    (scaleInv d L g 0 : sProp 𝕄)
      ⊢ iprop((∀ v, scaleInv d L g (16 * 128) -∗ Q v) -∗ wp frame (wpE (defs₀ (F := F)) 𝒱₀ (tile d L) none) Set.univ
          (Scf.Loop.for k0_t3_loop k0_t3_ok 0#32
            (k0_t3_body L zM (Memref.isWhole_whole _) aM (Memref.isWhole_whole _) oM (Memref.isWhole_whole _) rowsM (Memref.isWhole_whole _)
              posM (Memref.isWhole_whole _) valM (Memref.isWhole_whole _) cc0_scratch3 cc0_scoped0 cc0_scoped1)) Q) := by
  iintro H Hk
  iapply (Scf.wp_for frame (wpE (defs₀ (F := F)) 𝒱₀ (tile d L) none) Set.univ _ _ _ k0_t3_ok 0#32 _ (fun n _ => scaleInv d L g (16 * n)) (fun k acc => wp_scaleRow d L g k acc))
  isplitl [H]
  · iexact H
  · rw [show Scf.trips k0_t3_loop.lb k0_t3_loop.ub k0_t3_loop.st = 128 from trips3]
    iintro %acc H
    iapply Hk $$ H

end Cert.Proof.Scale
-- ==== Proof.Trip.lean ====
/-
  One trip of a tile's outer loop, and the tile's whole body. A trip fetches 2048 rows of `z`, fills in their positions, has
  the entries of `a` gathered, scales them and writes them out; the body is sixteen trips.
-/
module

public import proofs.«01_k».proof.Proof.Lanes
public import proofs.«01_k».proof.Proof.Copies
public import proofs.«01_k».proof.Proof.Scale

@[expose] public section

noncomputable section

namespace Cert.Proof.Trip

open Cert.KernelIdeal Cert.KernelIdeal.Gen
open Cert.Proof.Words Cert.Proof.Setup Cert.Proof.Rows Cert.Proof.Lanes Cert.Proof.Copies Cert.Proof.Scale
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## What the tile owes -/

/-- The tile owes `O`, and has waited for nothing but `W` and its own copies. -/
def owesOk (O : CellTallies nD τ sig (HIx 1)) (W : Waits sig (HIx 1)) : sProp 𝕄 :=
  iprop(∃ W', ⌜∀ p ∈ W', p ∈ W ∨ p.2 = none⌝ ∗ owes (tile d L) O W')

/-- One more wait for a copy of the tile's own. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

/-- One gather's wait. -/
theorem wp_drain1 {q : PosShare TreeShare} {fa : Buf (Elt F) (aM.view.loc (tile d L))} {fp : Buf (Elt F) (posM.view.loc (tile d L))}
    (g : ℕ) (hg : g < 16) {o : ℕ} {h1 : ∀ a, (![o] : Fin 1 → ℕ) a + S128.size a ≤ S2048.size a} {hsrc : gSrc.view.WordExact} {hdst : (gDst o h1).view.WordExact}
    {O : CellTallies nD τ sig (HIx 1)} {W : Waits sig (HIx 1)} {Q : PUnit → sProp 𝕄} :
    iprop(rowBatch d L q fa fp 2048 (g * (128 * unitN)) ∗ owesOk d L O W ∗ MayWaits (tile d L) (default : HIx 1) O)
      ⊢ iprop((iprop(rowBatch d L q fa fp 2048 ((g + 1) * (128 * unitN)) ∗ owesOk d L O W) -∗ Q ⟨⟩)
        -∗ wp frame (wpE (defs₀ (F := F)) 𝒱₀ (tile d L) none) Set.univ (SparseCore.waitIndirectGather cc0_scratch3.sem gSrc (gDst o h1) hsrc hdst) Q) := by
  unfold owesOk
  iintro ⟨HB, ⟨%W', %hW, HO⟩, Hmw⟩ Hk
  iapply (wp_drain d L g hg) $$ [HB HO Hmw]
  · isplitl [HB]; · iexact HB
    isplitl [HO]; · iexact HO
    iapply (MayWaits.elim (SemLoc.dma cc0_scratch3.sem)) $$ Hmw
  iintro ⟨HB, HO⟩
  iapply Hk
  isplitl [HB]; · iexact HB
  iexists _
  isplitr
  swap
  · iexact HO
  · ipureintro; exact waits_insert _ hW

/-! ## The positions -/

/-- The loop that fills in the positions. -/
theorem wp_positions (t : Fin k0_t1_loop.trips) {zf : S16777216.Idx → F .f32} {zb : Buf (Elt F) (rowsM.view.loc (tile d L))} (hz : ZRead (base L t.val) zf zb)
    {fp : Buf (Elt F) (posM.view.loc (tile d L))} {Q : BitVec 32 → sProp 𝕄} :
    iprop(rowsPts d L zb ∗ posPts d L fp)
      ⊢ iprop((∀ v, iprop(rowsPts d L zb ∗ posFill d L (base L t.val) zf (128 * 16)) -∗ Q v)
        -∗ wp frame (wpE (defs₀ (F := F)) 𝒱₀ (tile d L) none) Set.univ
          (Scf.Loop.for k0_t2_loop k0_t2_ok 0#32
            (k0_t2_body L zM (Memref.isWhole_whole _) aM (Memref.isWhole_whole _) oM (Memref.isWhole_whole _) rowsM (Memref.isWhole_whole _)
              posM (Memref.isWhole_whole _) valM (Memref.isWhole_whole _) cc0_scratch3 cc0_scoped0 cc0_scoped1 (tileWord L) c32 31#32 0#32 1#32 t (tripWord L t.val))) Q) := by
  iintro ⟨Hz, Hp⟩ Hk
  iapply (Scf.wp_for frame (wpE (defs₀ (F := F)) 𝒱₀ (tile d L) none) Set.univ _ _ _ k0_t2_ok 0#32 _
    (fun n _ => iprop(rowsPts d L zb ∗ posFill d L (base L t.val) zf (128 * n))) (fun k acc => wp_fillRow d L t hz k acc))
  isplitl [Hz Hp]
  · isplitl [Hz]; · iexact Hz
    unfold posFill
    iexists fp
    isplitl [Hp]; · iexact Hp
    ipureintro
    intro r c h
    exact absurd h (Nat.not_lt_zero _)
  · rw [show Scf.trips k0_t2_loop.lb k0_t2_loop.ub k0_t2_loop.st = 16 from trips2]
    iintro %acc H
    iapply Hk $$ H

/-- All the positions in place: what position `x` holds. -/
theorem filled_all {B : ℕ} {zf : S16777216.Idx → F .f32} {fp : S16x128.Idx → BitVec 32} (hf : Filled B zf (128 * 16) fp) (x : S16x128.Idx) :
    fp x = rowW zf (B + (128 * (x 0).val + (x 1).val)) := by
  have h0 : (x 0).val < 16 := (x 0).isLt
  have h1 : (x 1).val < 128 := (x 1).isLt
  rw [eq_ix2 x]
  exact hf (x 0) (x 1) (by omega)

/-- The positions lie in `a`. -/
theorem filled_lt (t : Fin k0_t1_loop.trips) {zf : S16777216.Idx → F .f32} {fp : S16x128.Idx → BitVec 32} (hf : Filled (base L t.val) zf (128 * 16) fp)
    (x : S16x128.Idx) : (fp x).toNat < 33554432 := by
  have h0 : (x 0).val < 16 := (x 0).isLt
  have h1 : (x 1).val < 128 := (x 1).isLt
  have hb := base_lt' L t
  rw [filled_all hf]
  exact flatW_lt (by omega) _

/-- The entries the positions pick, before scaling. -/
theorem picks_unscaled {B : ℕ} {zf : S16777216.Idx → F .f32} {af : S33554432.Idx → F .f32} {fp : S16x128.Idx → BitVec 32} (hf : Filled B zf (128 * 16) fp) :
    Scaled (fun j => aAt af (rowW zf (B + j))) 0 (picks af fp) := by
  intro j
  rw [if_neg (Nat.not_lt_zero _)]
  unfold picks
  rw [filled_all hf]
  show aAt af (rowW zf (B + (128 * (j.val / 128) + j.val % 128))) = aAt af (rowW zf (B + j.val))
  rw [Nat.div_add_mod]

/-! ## One trip -/

/-- Between trips: the tile's shares of `z` and of `a`, its rows of the result, those of the first `n` trips done, its
    scratches and its semaphores at zero. -/
def tripInv (O : CellTallies nD τ sig (HIx 1)) (W : Waits sig (HIx 1)) (qz qa : PosShare TreeShare) (zf : Buf (Elt F) (zM.view.loc (tile d L)))
    (af : Buf (Elt F) (aM.view.loc (tile d L))) (n : ℕ) : sProp 𝕄 :=
  iprop(MayWaits (tile d L) (default : HIx 1) O ∗ owesOk d L O W ∗ (zM.view.loc (tile d L) ↦{qz} zf) ∗ (aM.view.loc (tile d L) ↦{qa} af)
    ∗ (∃ fo, (oM.view.loc (tile d L) ↦[tileSet L]{fullShare} fo) ∗ ⌜OutDone L zf af (base L n) fo⌝)
    ∗ ((∃ f, rowsPts d L f) ∗ (∃ f, posPts d L f) ∗ (∃ f, valPts d L f))
    ∗ (semVal (tile d L, .dma cc0_scratch3.sem) 0 ∗ semVal (tile d L, .dma cc0_scoped0.sem) 0 ∗ semVal (tile d L, .dma cc0_scoped1.sem) 0))

/-- Before the first gather all the transfers' pieces are at hand. -/
theorem rows_pending (q : PosShare TreeShare) (fa : Buf (Elt F) (aM.view.loc (tile d L))) (fp : Buf (Elt F) (posM.view.loc (tile d L)))
    (fv : Buf (Elt F) (valM.view.loc (tile d L))) :
    (iprop((valPts d L fv ∗ posPts d L fp) ∗ (aM.view.loc (tile d L) ↦{q} fa)) : sProp 𝕄) ⊢ bigSep (pending 0) (rowRes d L q fa fp fv) := by
  rw [← rows_split, bigSep_pending_zero]

set_option maxHeartbeats 8000000 in
/-- One trip. -/
theorem wp_trip (O : CellTallies nD τ sig (HIx 1)) (W : Waits sig (HIx 1)) (qz qa : PosShare TreeShare) (zf : Buf (Elt F) (zM.view.loc (tile d L)))
    (af : Buf (Elt F) (aM.view.loc (tile d L))) (t : Fin k0_t1_loop.trips) (acc : BitVec 32) :
    (tripInv d L O W qz qa zf af t.val : sProp 𝕄)
      ⊢ wp frame (wpE (defs₀ (F := F)) 𝒱₀ (tile d L) none) Set.univ
          (k0_t1_body L zM (Memref.isWhole_whole _) aM (Memref.isWhole_whole _) oM (Memref.isWhole_whole _) rowsM (Memref.isWhole_whole _)
              posM (Memref.isWhole_whole _) valM (Memref.isWhole_whole _) cc0_scratch3 cc0_scoped0 cc0_scoped1 (tileWord L) c32 t acc)
          fun _ => tripInv d L O W qz qa zf af (t.val + 1) := by
  unfold k0_t1_body tripInv
  simp only [k0_part5_eq_skeleton, k0_part6_eq_skeleton, k0_part7_eq_skeleton, k0_part8_eq_skeleton, k0_part9_eq_skeleton]
  unfold k0_part5_skel k0_part6_skel k0_part7_skel k0_part8_skel k0_part9_skel
  simp only [wp_bind]
  iintro ⟨#Hmw, HO, Hz, Ha, ⟨%fo, Ho, %ho⟩, ⟨⟨%fr, Hr⟩, ⟨%fp0, Hp⟩, ⟨%fv, Hv⟩⟩, ⟨Hs3, Hs0, Hs1⟩⟩
  unfold owesOk
  icases HO with ⟨%W1, %hW1, HO⟩
  -- the rows of `z`
  iapply (wp_fetch d L t) $$ [Hz Hr Hs0 HO]
  · isplitl [Hz]; · iexact Hz
    isplitl [Hr]; · iexact Hr
    isplitl [Hs0]; · iexact Hs0
    isplitl [HO]; · iexact HO
    iapply (MayWaits.elim (SemLoc.dma cc0_scoped0.sem)) $$ Hmw
  iintro %zb %hz ⟨Hz, Hr, Hs0, HO⟩
  -- their positions
  iapply (wp_positions d L t hz) $$ [Hr Hp]
  · isplitl [Hr]; · iexact Hr
    iexact Hp
  iintro %v ⟨Hr, Hp⟩
  unfold posFill
  icases Hp with ⟨%fp, Hp, %hf⟩
  have hfp := filled_lt L t hf
  -- the gathers, all fired
  imod (rowBatch_alloc d L qa af fp) $$ Hs3 with HB
  ihave HR := (rows_pending d L qa af fp fv) $$ [Hv Hp Ha]
  · isplitr [Ha]
    · isplitl [Hv] <;> iassumption
    · iexact Ha
  iapply (wp_fire d L hfp 0 (by decide)) $$ [HB HR]
  · isplitl [HB]; · iexact HB
    iexact HR
  iintro ⟨HB, HR⟩
  iapply (wp_fire d L hfp 1 (by decide)) $$ [HB HR]
  · isplitl [HB]; · iexact HB
    iexact HR
  iintro ⟨HB, HR⟩
  iapply (wp_fire d L hfp 2 (by decide)) $$ [HB HR]
  · isplitl [HB]; · iexact HB
    iexact HR
  iintro ⟨HB, HR⟩
  iapply (wp_fire d L hfp 3 (by decide)) $$ [HB HR]
  · isplitl [HB]; · iexact HB
    iexact HR
  iintro ⟨HB, HR⟩
  iapply (le_wp_ret _ _ _ _ _)
  iapply (wp_fire d L hfp 4 (by decide)) $$ [HB HR]
  · isplitl [HB]; · iexact HB
    iexact HR
  iintro ⟨HB, HR⟩
  iapply (wp_fire d L hfp 5 (by decide)) $$ [HB HR]
  · isplitl [HB]; · iexact HB
    iexact HR
  iintro ⟨HB, HR⟩
  iapply (wp_fire d L hfp 6 (by decide)) $$ [HB HR]
  · isplitl [HB]; · iexact HB
    iexact HR
  iintro ⟨HB, HR⟩
  iapply (wp_fire d L hfp 7 (by decide)) $$ [HB HR]
  · isplitl [HB]; · iexact HB
    iexact HR
  iintro ⟨HB, HR⟩
  iapply (wp_fire d L hfp 8 (by decide)) $$ [HB HR]
  · isplitl [HB]; · iexact HB
    iexact HR
  iintro ⟨HB, HR⟩
  iapply (wp_fire d L hfp 9 (by decide)) $$ [HB HR]
  · isplitl [HB]; · iexact HB
    iexact HR
  iintro ⟨HB, HR⟩
  iapply (wp_fire d L hfp 10 (by decide)) $$ [HB HR]
  · isplitl [HB]; · iexact HB
    iexact HR
  iintro ⟨HB, HR⟩
  iapply (le_wp_ret _ _ _ _ _)
  iapply (wp_fire d L hfp 11 (by decide)) $$ [HB HR]
  · isplitl [HB]; · iexact HB
    iexact HR
  iintro ⟨HB, HR⟩
  iapply (wp_fire d L hfp 12 (by decide)) $$ [HB HR]
  · isplitl [HB]; · iexact HB
    iexact HR
  iintro ⟨HB, HR⟩
  iapply (wp_fire d L hfp 13 (by decide)) $$ [HB HR]
  · isplitl [HB]; · iexact HB
    iexact HR
  iintro ⟨HB, HR⟩
  iapply (wp_fire d L hfp 14 (by decide)) $$ [HB HR]
  · isplitl [HB]; · iexact HB
    iexact HR
  iintro ⟨HB, HR⟩
  iapply (wp_fire d L hfp 15 (by decide)) $$ [HB HR]
  · isplitl [HB]; · iexact HB
    iexact HR
  iintro ⟨HB, HR⟩
  iclear HR
  -- and all waited for
  ihave HO := (show owes (tile d L) O (insert (SemLoc.dma cc0_scoped0.sem, (default : HIx 1)) W1) ⊢ owesOk d L O W from by
    unfold owesOk
    iintro HO
    iexists _
    isplitr
    swap
    · iexact HO
    · ipureintro; exact waits_insert _ hW1) $$ HO
  iapply (wp_drain1 d L 0 (by decide)) $$ [HB HO]
  · isplitl [HB]; · iexact HB
    isplitl [HO]; · iexact HO
    iexact Hmw
  iintro ⟨HB, HO⟩
  iapply (le_wp_ret _ _ _ _ _)
  iapply (wp_drain1 d L 1 (by decide)) $$ [HB HO]
  · isplitl [HB]; · iexact HB
    isplitl [HO]; · iexact HO
    iexact Hmw
  iintro ⟨HB, HO⟩
  iapply (wp_drain1 d L 2 (by decide)) $$ [HB HO]
  · isplitl [HB]; · iexact HB
    isplitl [HO]; · iexact HO
    iexact Hmw
  iintro ⟨HB, HO⟩
  iapply (wp_drain1 d L 3 (by decide)) $$ [HB HO]
  · isplitl [HB]; · iexact HB
    isplitl [HO]; · iexact HO
    iexact Hmw
  iintro ⟨HB, HO⟩
  iapply (wp_drain1 d L 4 (by decide)) $$ [HB HO]
  · isplitl [HB]; · iexact HB
    isplitl [HO]; · iexact HO
    iexact Hmw
  iintro ⟨HB, HO⟩
  iapply (wp_drain1 d L 5 (by decide)) $$ [HB HO]
  · isplitl [HB]; · iexact HB
    isplitl [HO]; · iexact HO
    iexact Hmw
  iintro ⟨HB, HO⟩
  iapply (wp_drain1 d L 6 (by decide)) $$ [HB HO]
  · isplitl [HB]; · iexact HB
    isplitl [HO]; · iexact HO
    iexact Hmw
  iintro ⟨HB, HO⟩
  iapply (wp_drain1 d L 7 (by decide)) $$ [HB HO]
  · isplitl [HB]; · iexact HB
    isplitl [HO]; · iexact HO
    iexact Hmw
  iintro ⟨HB, HO⟩
  iapply (le_wp_ret _ _ _ _ _)
  iapply (wp_drain1 d L 8 (by decide)) $$ [HB HO]
  · isplitl [HB]; · iexact HB
    isplitl [HO]; · iexact HO
    iexact Hmw
  iintro ⟨HB, HO⟩
  iapply (wp_drain1 d L 9 (by decide)) $$ [HB HO]
  · isplitl [HB]; · iexact HB
    isplitl [HO]; · iexact HO
    iexact Hmw
  iintro ⟨HB, HO⟩
  iapply (wp_drain1 d L 10 (by decide)) $$ [HB HO]
  · isplitl [HB]; · iexact HB
    isplitl [HO]; · iexact HO
    iexact Hmw
  iintro ⟨HB, HO⟩
  iapply (wp_drain1 d L 11 (by decide)) $$ [HB HO]
  · isplitl [HB]; · iexact HB
    isplitl [HO]; · iexact HO
    iexact Hmw
  iintro ⟨HB, HO⟩
  iapply (wp_drain1 d L 12 (by decide)) $$ [HB HO]
  · isplitl [HB]; · iexact HB
    isplitl [HO]; · iexact HO
    iexact Hmw
  iintro ⟨HB, HO⟩
  iapply (wp_drain1 d L 13 (by decide)) $$ [HB HO]
  · isplitl [HB]; · iexact HB
    isplitl [HO]; · iexact HO
    iexact Hmw
  iintro ⟨HB, HO⟩
  iapply (wp_drain1 d L 14 (by decide)) $$ [HB HO]
  · isplitl [HB]; · iexact HB
    isplitl [HO]; · iexact HO
    iexact Hmw
  iintro ⟨HB, HO⟩
  iapply (le_wp_ret _ _ _ _ _)
  iapply (wp_drain1 d L 15 (by decide)) $$ [HB HO]
  · isplitl [HB]; · iexact HB
    isplitl [HO]; · iexact HO
    iexact Hmw
  iintro ⟨HB, HO⟩
  imod (rowBatch_collect d L qa af fp) $$ HB with ⟨⟨⟨Hv, Hp⟩, Ha⟩, Hs3⟩
  -- the scaling
  iapply (wp_scale d L (fun j => aAt af (rowW zf (base L t.val + j)))) $$ [Hv]
  · unfold scaleInv
    iexists _
    isplitl [Hv]; · iexact Hv
    ipureintro; exact picks_unscaled hf
  iintro %v' Hv
  unfold scaleInv owesOk
  icases Hv with ⟨%g, Hv, %hg⟩
  icases HO with ⟨%W2, %hW2, HO⟩
  -- the write-back
  have hg' : ∀ j : Fin 2048, g (ix1 j) = outV zf af (base L t.val + j.val) := fun j => by
    rw [hg j, if_pos j.isLt]
    rfl
  iapply (wp_send d L t hg' ho) $$ [Hv Ho Hs1 HO]
  · isplitl [Hv]; · iexact Hv
    isplitl [Ho]; · iexact Ho
    isplitl [Hs1]; · iexact Hs1
    isplitl [HO]; · iexact HO
    iapply (MayWaits.elim (SemLoc.dma cc0_scoped1.sem)) $$ Hmw
  iintro %fo' %ho' ⟨Hv, Ho, Hs1, HO⟩
  iapply (le_wp_ret _ _ _ _ _)
  isplitr; · iexact Hmw
  isplitl [HO]
  · iexists _
    isplitr
    swap
    · iexact HO
    · ipureintro; exact waits_insert _ hW2
  isplitl [Hz]; · iexact Hz
  isplitl [Ha]; · iexact Ha
  isplitl [Ho]
  · iexists _
    isplitl [Ho]; · iexact Ho
    ipureintro; exact ho'
  isplitl [Hr Hp Hv]
  · isplitl [Hr]; · iexists _; iexact Hr
    isplitl [Hp]; · iexists _; iexact Hp
    iexists _; iexact Hv
  isplitl [Hs3]; · iexact Hs3
  isplitl [Hs0]; · iexact Hs0
  iexact Hs1

/-- The tile's sixteen trips: its rows of the result are done. -/
theorem wp_tile (O : CellTallies nD τ sig (HIx 1)) (W : Waits sig (HIx 1)) (qz qa : PosShare TreeShare) (zf : Buf (Elt F) (zM.view.loc (tile d L)))
    (af : Buf (Elt F) (aM.view.loc (tile d L))) :
    (tripInv d L O W qz qa zf af 0 : sProp 𝕄)
      ⊢ wp frame (wpE (defs₀ (F := F)) 𝒱₀ (tile d L) none) Set.univ
          (cc0__sc_body L zM (Memref.isWhole_whole _) aM (Memref.isWhole_whole _) oM (Memref.isWhole_whole _) rowsM (Memref.isWhole_whole _)
              posM (Memref.isWhole_whole _) valM (Memref.isWhole_whole _) cc0_scratch3 cc0_scoped0 cc0_scoped1)
          fun _ => tripInv d L O W qz qa zf af 16 := by
  rw [cc0__sc_body_eq_skeleton]
  unfold cc0__sc_body_skel
  simp only [wp_bind]
  iintro H
  iapply (Scf.wp_for frame (wpE (defs₀ (F := F)) 𝒱₀ (tile d L) none) Set.univ _ _ _ k0_t1_ok 0#32 _ (fun n _ => tripInv d L O W qz qa zf af n)
    (fun k acc => wp_trip d L O W qz qa zf af k acc))
  isplitl [H]; · iexact H
  rw [show Scf.trips k0_t1_loop.lb k0_t1_loop.ub k0_t1_loop.st = 16 from trips1]
  iintro %acc H
  iapply (le_wp_ret _ _ _ _ _)
  iexact H

end Cert.Proof.Trip
-- ==== Proof.Tile.lean ====
/-
  A tile's task: from its shares of `z` and `a`, its rows of the result, and its own scratches and semaphores, to its rows
  holding the problem's result.
-/
module

public import proofs.«01_k».proof.Proof.Trip

@[expose] public section

noncomputable section

namespace Cert.Proof.Tile

open Cert.KernelIdeal Cert.KernelIdeal.Gen
open Cert.Proof.Words Cert.Proof.Setup Cert.Proof.Copies Cert.Proof.Trip
open Idealize.ShloMosaic.SparseCore.Cfg (ownBufs ownSems0 ownCells ownRefs mem_ownCells)
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The tile's own buffers and semaphores -/

/-- The tile's semaphore cell. -/
abbrev cell (s : DmaSem sig) : GSem nD τ sig := (tile d L, .dma s)

theorem cell_ne {s s' : DmaSem sig} (h : (SemLoc.dma s : SemLoc sig) ≠ .dma s') : cell d L s ≠ cell d L s' := fun e => h (congrArg Prod.snd e)

theorem cell_mem {s : DmaSem sig} (h : (SemLoc.dma s : SemLoc sig).isScoped .scVector = true) : cell d L s ∈ ownCells (tile d L) :=
  mem_ownCells.mpr ⟨rfl, h⟩

/-- The semaphores a tile owns are the three it uses and the rest. -/
theorem ownSems_tile :
    (ownSems0 (tile d L) : sProp 𝕄)
      = iprop(semVal (cell d L cc0_scratch3.sem) 0 ∗ semVal (cell d L cc0_scoped0.sem) 0 ∗ semVal (cell d L cc0_scoped1.sem) 0
          ∗ bigSep ((((ownCells (tile d L)).erase (cell d L cc0_scratch3.sem)).erase (cell d L cc0_scoped0.sem)).erase (cell d L cc0_scoped1.sem)) fun g => semVal g 0) := by
  have m0 : cell d L cc0_scratch3.sem ∈ ownCells (tile d L) := cell_mem d L (by decide)
  have m1 : cell d L cc0_scoped0.sem ∈ (ownCells (tile d L)).erase (cell d L cc0_scratch3.sem) :=
    Finset.mem_erase.mpr ⟨cell_ne d L (by decide), cell_mem d L (by decide)⟩
  have m2 : cell d L cc0_scoped1.sem ∈ ((ownCells (tile d L)).erase (cell d L cc0_scratch3.sem)).erase (cell d L cc0_scoped0.sem) :=
    Finset.mem_erase.mpr ⟨cell_ne d L (by decide), Finset.mem_erase.mpr ⟨cell_ne d L (by decide), cell_mem d L (by decide)⟩⟩
  unfold SparseCore.Cfg.ownSems0
  rw [SparseCore.bigSep_erase' m0, SparseCore.bigSep_erase' m1, SparseCore.bigSep_erase' m2]

/-- The tile's buffer behind a name of its own memory. -/
abbrev own (r : Ref sig .scVector) : DevRef τ sig := (Proc.scVector (cV L) (jV L)).devRef r

theorem own_ne {r r' : Ref sig .scVector} (h : r ≠ r') : own L r ≠ own L r' := fun e => h (Proc.devRef_injective _ e)

/-- The buffers a tile owns are its three scratches and the rest. -/
theorem ownBufs_tile :
    (ownBufs (tile d L) : sProp 𝕄)
      = iprop((∃ f, rowsPts d L f) ∗ (∃ f, posPts d L f) ∗ (∃ f, valPts d L f)
          ∗ bigSep ((((ownRefs (τ := τ) (.scVector (cV L) (jV L))).erase (own L cc0_scratch0)).erase (own L cc0_scratch1)).erase (own L cc0_scratch2))
              fun b => iprop(∃ f, ((d, b) : Loc nD τ sig) ↦{fullShare} f)) := by
  have m0 : own L cc0_scratch0 ∈ ownRefs (τ := τ) (sig := sig) (.scVector (cV L) (jV L)) := SparseCore.Cfg.mem_ownRefs_of_owner (p := Proc.scVector (cV L) (jV L)) (b := own L cc0_scratch0) rfl
  have m1 : own L cc0_scratch1 ∈ (ownRefs (τ := τ) (sig := sig) (.scVector (cV L) (jV L))).erase (own L cc0_scratch0) :=
    Finset.mem_erase.mpr ⟨own_ne L (by decide), SparseCore.Cfg.mem_ownRefs_of_owner (p := Proc.scVector (cV L) (jV L)) (b := own L cc0_scratch1) rfl⟩
  have m2 : own L cc0_scratch2 ∈ ((ownRefs (τ := τ) (sig := sig) (.scVector (cV L) (jV L))).erase (own L cc0_scratch0)).erase (own L cc0_scratch1) :=
    Finset.mem_erase.mpr ⟨own_ne L (by decide), Finset.mem_erase.mpr ⟨own_ne L (by decide),
      SparseCore.Cfg.mem_ownRefs_of_owner (p := Proc.scVector (cV L) (jV L)) (b := own L cc0_scratch2) rfl⟩⟩
  unfold SparseCore.Cfg.ownBufs
  refine (SparseCore.bigSep_erase' m0).trans ?_
  rw [SparseCore.bigSep_erase' m1, SparseCore.bigSep_erase' m2]

/-! ## The task -/

/-- The result as one array, from `z` and `a` laid out flat. -/
def outA (zf : S16777216.Idx → F .f32) (af : S33554432.Idx → F .f32) : S1048576.Idx → F .f32 := fun i => outV zf af (i 0).val

/-- All of the tile's trips done, its rows hold the result. -/
theorem outDone_all {zf : S16777216.Idx → F .f32} {af : S33554432.Idx → F .f32} {fo : S1048576.Idx → F .f32} (h : OutDone L zf af (base L 16) fo) :
    ∀ i ∈ tileSet L, fo i = outA zf af i := by
  intro i hi
  obtain ⟨-, h0, h1⟩ := Finset.mem_filter.mp hi
  rw [eq_ix1 i]
  exact h (i 0) h0 h1

set_option maxHeartbeats 4000000 in
/-- The task of one tile. -/
theorem tile_task (hF : (K (F := F)).Facts) (O : CellTallies nD τ sig (HIx 1)) (W : Waits sig (HIx 1)) (hO : ∀ g, O g none = 0) (qz qa : PosShare TreeShare)
    (zf : Buf (Elt F) (zM.view.loc (tile d L))) (af : Buf (Elt F) (aM.view.loc (tile d L))) (fo : Buf (Elt F) (oM.view.loc (tile d L))) :
    (iprop(levAts (K (F := F)).L (K (F := F)).lev ∗ emp
        ∗ ((zM.view.loc (tile d L) ↦{qz} zf) ∗ (aM.view.loc (tile d L) ↦{qa} af) ∗ (oM.view.loc (tile d L) ↦[tileSet L]{fullShare} fo))
        ∗ scopedBufs (tile d L) ∗ scopedSems0 (tile d L) ∗ owes (tile d L) O W) : sProp 𝕄)
      ⊢ wp frame (wpE (defs₀ (F := F)) 𝒱₀ (tile d L) none) Set.univ
          (cc0__sc_body L zM (Memref.isWhole_whole _) aM (Memref.isWhole_whole _) oM (Memref.isWhole_whole _) rowsM (Memref.isWhole_whole _)
            posM (Memref.isWhole_whole _) valM (Memref.isWhole_whole _) cc0_scratch3 cc0_scoped0 cc0_scoped1)
          fun _ => iprop(((zM.view.loc (tile d L) ↦{qz} zf) ∗ (aM.view.loc (tile d L) ↦{qa} af) ∗ (oM.view.loc (tile d L) ↦[tileSet L]{fullShare} outA zf af))
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems_tile, ownBufs_tile]
  iintro ⟨#Hlv, -, ⟨Hz, Ha, Ho⟩, ⟨Hr, Hp, Hv, Hbufs⟩, ⟨Hs3, Hs0, Hs1, Hsems⟩, HO⟩
  ihave Hmw := (show levAts (K (F := F)).L (K (F := F)).lev ⊢ MayWaits (tile d L) (default : HIx 1) O from
    (K (F := F)).mayWaits_none (thr := tile d L) hO) $$ Hlv
  iapply (wp_wand_r frame (wpE (defs₀ (F := F)) 𝒱₀ (tile d L) none) Set.univ)
  isplitl [Hmw Hz Ha Ho Hr Hp Hv Hs3 Hs0 Hs1 HO]
  · iapply (wp_tile d L O W qz qa zf af)
    unfold tripInv owesOk
    isplitl [Hmw]; · iexact Hmw
    isplitl [HO]
    · iexists W
      isplitr
      · ipureintro; exact fun p hp => .inl hp
      · iexact HO
    isplitl [Hz]; · iexact Hz
    isplitl [Ha]; · iexact Ha
    isplitl [Ho]
    · iexists fo
      isplitl [Ho]; · iexact Ho
      ipureintro
      intro i h0 h1
      exact absurd h1 (Nat.not_lt.mpr h0)
    isplitl [Hr Hp Hv]
    · isplitl [Hr]; · iexact Hr
      isplitl [Hp]; · iexact Hp
      iexact Hv
    isplitl [Hs3]; · iexact Hs3
    isplitl [Hs0]; · iexact Hs0
    iexact Hs1
  iintro %v H
  unfold tripInv owesOk
  icases H with ⟨-, HO, Hz, Ha, ⟨%fo', Ho, %ho⟩, ⟨Hr, Hp, Hv⟩, ⟨Hs3, Hs0, Hs1⟩⟩
  isplitl [Hz Ha Ho]
  · isplitl [Hz]; · iexact Hz
    isplitl [Ha]; · iexact Ha
    iapply (Entails.of_eq (pointsTo_congr (outDone_all L ho))) $$ Ho
  isplitl [Hr Hp Hv Hbufs]
  · isplitl [Hr]; · iexact Hr
    isplitl [Hp]; · iexact Hp
    isplitl [Hv]; · iexact Hv
    iexact Hbufs
  isplitl [Hs3 Hs0 Hs1 Hsems]
  · isplitl [Hs3]; · iexact Hs3
    isplitl [Hs0]; · iexact Hs0
    isplitl [Hs1]; · iexact Hs1
    iexact Hsems
  iexact HO

end Cert.Proof.Tile
-- ==== Proof.Launch.lean ====
/-
  The whole run: the arrays are flattened on the TensorCore, handed out to the thirty-two tiles, and taken back with every
  row of the result in place.
-/
module

public import proofs.«01_k».proof.Proof.Tile

@[expose] public section

noncomputable section

namespace Cert.Proof.Launch

open Cert.KernelIdeal Cert.KernelIdeal.Gen
open Cert.Proof.Words Cert.Proof.Setup Cert.Proof.Copies Cert.Proof.Trip Cert.Proof.Tile
open Idealize.ShloMosaic hiding ix1 ix2 eq_ix1 eq_ix2
open Idealize.ShloMosaic.ValueIdx
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held)

variable (m : (ℓ : Loc nD τ sig) → Buf (Elt F) ℓ) (ρ : Dev nD → PrngReg)

/-! ## The arrays -/

abbrev z2Loc (d : Dev nD) : Loc nD τ sig := (SparseCore.T d).loc main_arg0
abbrev a2Loc (d : Dev nD) : Loc nD τ sig := (SparseCore.T d).loc main_arg1
abbrev zLoc (d : Dev nD) : Loc nD τ sig := (SparseCore.T d).loc main_v0
abbrev aLoc (d : Dev nD) : Loc nD τ sig := (SparseCore.T d).loc main_v1
abbrev oLoc (d : Dev nD) : Loc nD τ sig := (SparseCore.T d).loc main_v2

/-- `z` and `a` laid out flat. -/
def zFlat (d : Dev nD) : S16777216.Idx → F .f32 := shapeCast S16777216 (m (z2Loc d) : S1048576x16.Idx → F .f32) shapeCasts_S1048576x16_S16777216
def aFlat (d : Dev nD) : S33554432.Idx → F .f32 := shapeCast S33554432 (m (a2Loc d) : S1048576x32.Idx → F .f32) shapeCasts_S1048576x32_S33554432
/-- What the kernel computes. -/
def result (d : Dev nD) : S1048576.Idx → F .f32 := outA (zFlat m d) (aFlat m d)

/-! ## Who gets what -/

/-- A tile by its core and its number. -/
def tileAt (c : Fin (grid0.bound 0)) (s : Fin (grid0.bound 1)) : grid0.Coords :=
  fun | 0 => c | 1 => s | ⟨_ + 2, h⟩ => absurd h (Nat.not_lt.2 (Nat.le_add_left _ _))

/-- The share of an input that goes to a core, and of that the one that goes to a tile. -/
abbrev qCore (c : Fin 2) : PosShare TreeShare := pieceOf fullShare 2 (by decide) c
abbrev qTile (c : Fin 2) (s : Fin 16) : PosShare TreeShare := pieceOf (qCore c) 16 (by decide) s

/-- What a tile is given, and gives back: its share of the inputs and its rows of the result. -/
def forTile (d : Dev nD) (o : Buf (Elt F) (oLoc d)) (c : Fin 2) (s : Fin 16) : sProp 𝕄 :=
  iprop((zLoc d ↦{qTile c s} zFlat m d) ∗ (aLoc d ↦{qTile c s} aFlat m d) ∗ oLoc d ↦[tileSet (tileAt c s)]{fullShare} o)
/-- What a core is given, and gives back: its share of the inputs and its tiles' rows of the result. -/
def forCore (d : Dev nD) (o : Buf (Elt F) (oLoc d)) (c : Fin 2) : sProp 𝕄 :=
  iprop((zLoc d ↦{qCore c} zFlat m d) ∗ (aLoc d ↦{qCore c} aFlat m d)
    ∗ bigSep Finset.univ fun s : Fin 16 => oLoc d ↦[tileSet (tileAt c s)]{fullShare} o)

instance (d : Dev nD) (o : Buf (Elt F) (oLoc d)) (c : Fin 2) (s : Fin 16) : BI.Storable (upEmb : UEmb _ 𝕄) (forTile m d o c s) := by
  unfold forTile; infer_instance
instance (d : Dev nD) (o : Buf (Elt F) (oLoc d)) (c : Fin 2) : BI.Storable (upEmb : UEmb _ 𝕄) (forCore m d o c) := by
  unfold forCore; infer_instance

/-- A core's part is its tiles' parts. -/
theorem forCore_eq (d : Dev nD) (o : Buf (Elt F) (oLoc d)) (c : Fin 2) :
    forCore m d o c = bigSep Finset.univ fun s : Fin 16 => forTile m d o c s := by
  unfold forCore forTile
  rw [bigSep_sep', bigSep_sep', pointsTo_piecesOf Finset.univ _ (o := 16) (by decide) (qCore c), pointsTo_piecesOf Finset.univ _ (o := 16) (by decide) (qCore c)]

/-! ## The rows of the result among the tiles -/

/-- The number of a tile's first row. -/
theorem base_tileAt (c : Fin 2) (s : Fin 16) (t : ℕ) : base (tileAt c s) t = 65536 * s.val + 32768 * c.val + 2048 * t := rfl

theorem mem_tileSet (c : Fin 2) (s : Fin 16) (i : S1048576.Idx) :
    i ∈ tileSet (tileAt c s) ↔ 65536 * s.val + 32768 * c.val ≤ (i 0).val ∧ (i 0).val < 65536 * s.val + 32768 * c.val + 32768 := by
  unfold tileSet
  rw [Finset.mem_filter, base_tileAt, base_tileAt]
  exact ⟨fun h => h.2, fun h => ⟨Finset.mem_univ _, h⟩⟩

/-- A core's rows. -/
def coreSet (c : Fin 2) : Finset S1048576.Idx := Finset.univ.biUnion fun s : Fin 16 => tileSet (tileAt c s)

theorem tiles_disjoint (c : Fin 2) : ∀ s ∈ (Finset.univ : Finset (Fin 16)), ∀ s' ∈ (Finset.univ : Finset (Fin 16)), s ≠ s' →
    Disjoint (tileSet (tileAt c s)) (tileSet (tileAt c s')) := by
  intro s _ s' _ h
  have hv : s.val ≠ s'.val := fun e => h (Fin.ext e)
  refine Finset.disjoint_left.mpr fun i hi hi' => ?_
  rw [mem_tileSet] at hi hi'
  omega

theorem mem_coreSet (c : Fin 2) (i : S1048576.Idx) : i ∈ coreSet c ↔ ((i 0).val / 32768) % 2 = c.val := by
  have hi : (i 0).val < 1048576 := (i 0).isLt
  have hc : c.val < 2 := c.isLt
  unfold coreSet
  rw [Finset.mem_biUnion]
  constructor
  · rintro ⟨s, -, hs⟩
    rw [mem_tileSet] at hs
    omega
  · intro h
    refine ⟨⟨(i 0).val / 65536, by omega⟩, Finset.mem_univ _, (mem_tileSet c _ i).mpr ?_⟩
    show 65536 * ((i 0).val / 65536) + 32768 * c.val ≤ (i 0).val ∧ (i 0).val < 65536 * ((i 0).val / 65536) + 32768 * c.val + 32768
    omega

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun i hi hi' => ?_
  rw [mem_coreSet] at hi hi'
  exact h (Fin.ext (hi.symm.trans hi'))

theorem cores_cover : (Finset.univ : Finset (Fin 2)).biUnion coreSet = (Finset.univ : Finset S1048576.Idx) := by
  ext i
  refine ⟨fun _ => Finset.mem_univ _, fun _ => Finset.mem_biUnion.mpr ⟨⟨((i 0).val / 32768) % 2, Nat.mod_lt _ (by decide)⟩, Finset.mem_univ _, ?_⟩⟩
  exact (mem_coreSet _ i).mpr rfl

/-- The whole result is the tiles' rows, core by core. -/
theorem rows_split (d : Dev nD) (o : Buf (Elt F) (oLoc d)) :
    (oLoc d ↦{fullShare} o : sProp 𝕄)
      = bigSep Finset.univ fun c : Fin 2 => bigSep Finset.univ fun s : Fin 16 => oLoc d ↦[tileSet (tileAt c s)]{fullShare} o := by
  have h1 : (oLoc d ↦[(Finset.univ : Finset (Fin 2)).biUnion coreSet]{fullShare} o : sProp 𝕄) = _ :=
    pointsTo_biUnion Finset.univ (ℓ := oLoc d) coreSet cores_disjoint
  rw [cores_cover] at h1
  exact h1.trans (bigSep_congr fun c _ => pointsTo_biUnion Finset.univ (ℓ := oLoc d) (fun s : Fin 16 => tileSet (tileAt c s)) (tiles_disjoint c))

/-- The inputs and the result, whole, are the two cores' parts. -/
theorem forCores_eq (d : Dev nD) (o : Buf (Elt F) (oLoc d)) :
    (bigSep Finset.univ fun c : Fin 2 => forCore m d o c)
      = iprop((zLoc d ↦{fullShare} zFlat m d) ∗ (aLoc d ↦{fullShare} aFlat m d) ∗ oLoc d ↦{fullShare} o) := by
  unfold forCore
  rw [bigSep_sep', bigSep_sep', ← rows_split, ← pointsTo_piecesOf Finset.univ _ (o := 2) (by decide) fullShare, ← pointsTo_piecesOf Finset.univ _ (o := 2) (by decide) fullShare]

/-! ## The protocol of the launch -/

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- What the four handshakes of the call carry. -/
def P : (K (F := F)).Pay (nD := nD) (Val := Elt F) (Name := ℕ) (U := UU) where
  st := fun q d c => match q with | 0 => forCore m d (m (oLoc d)) c
  dn := fun q d c => match q with | 0 => forCore m d (result m d) c
  go := fun q d c i => match q with | 0 => forTile m d (m (oLoc d)) c i
  td := fun q d c i => match q with | 0 => forTile m d (result m d) c i
  x := fun _ _ => iprop(emp)

instance : (P m).IsStorable where
  st := fun q d c => match q with | 0 => (inferInstance : BI.Storable (upEmb : UEmb _ 𝕄) (forCore m d (m (oLoc d)) c))
  dn := fun q d c => match q with | 0 => (inferInstance : BI.Storable (upEmb : UEmb _ 𝕄) (forCore m d (result m d) c))
  go := fun q d c i => match q with | 0 => (inferInstance : BI.Storable (upEmb : UEmb _ 𝕄) (forTile m d (m (oLoc d)) c i))
  td := fun q d c i => match q with | 0 => (inferInstance : BI.Storable (upEmb : UEmb _ 𝕄) (forTile m d (result m d) c i))

theorem task_eq (c : Fin τ.nSC) (s : Fin τ.nSub) :
    defs₀ (F := F) (.scVector c s) 0 ()
      = SparseCore.onTile hcore0 hsub0 (fun c s => cc0__sc_body (tileAt c s) zM (Memref.isWhole_whole _) aM (Memref.isWhole_whole _) oM (Memref.isWhole_whole _) rowsM (Memref.isWhole_whole _)
            posM (Memref.isWhole_whole _) valM (Memref.isWhole_whole _) cc0_scratch3 cc0_scoped0 cc0_scoped1) ⟨⟩ c s := rfl

theorem weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right Or.inl
  · iexact HO

set_option maxRecDepth 16384 in
/-- Every tile does its task. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [task_eq]; simp only [SparseCore.onTile, hci, and_self, ↓reduceDIte]
  exact (tile_task d (tileAt ⟨_, hci.1⟩ ⟨_, hci.2⟩) facts O W hO (qTile c i) (qTile c i) (zFlat m d) (aFlat m d) (m (oLoc d))).trans
    (wp_mono frame _ _ fun _ => weaken)

/-- A core's part goes out to its tiles and comes back. -/
theorem vecSplit : (K (F := F)).VecSplit' (P m) 0 := by
  intro d c
  show forCore m d (m (oLoc d)) c ⊢ |={Set.univ}=> iprop((bigSep Finset.univ fun s : Fin 16 => forTile m d (m (oLoc d)) c s)
      ∗ ((bigSep Finset.univ fun s : Fin 16 => forTile m d (result m d) c s) -∗ forCore m d (result m d) c))
  rw [forCore_eq, forCore_eq]
  iintro H
  imodintro
  isplitl [H]; · iexact H
  iintro H
  iexact H

def u₀ : UU := (initOf (K (F := F)).hsCells (K (F := F)).hsToks, 1)

theorem emps (I : Type) (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P (F := F) m).x q thr) = iprop(emp) :=
    (bigSep_congr fun _ _ => bigSep_univ_of_subsingleton (0 : Fin 1)).trans (emps _ _)
  unfold u₀
  rw [e, emps]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## On the TensorCore -/

abbrev z2 : DevRef τ sig := Proc.devRef .tc (main_arg0 : Ref sig .tc)
abbrev a2 : DevRef τ sig := Proc.devRef .tc (main_arg1 : Ref sig .tc)
abbrev z1 : DevRef τ sig := Proc.devRef .tc (main_v0 : Ref sig .tc)
abbrev a1 : DevRef τ sig := Proc.devRef .tc (main_v1 : Ref sig .tc)
abbrev o1 : DevRef τ sig := Proc.devRef .tc (main_v2 : Ref sig .tc)
/-- The arrays of the program. -/
abbrev arrays : Finset (DevRef τ sig) := {z2, a2, z1, a1, o1}

/-- The two flattenings. -/
abbrev opZ : HloOp τ sig (Elt F) := StableHlo.reshape main_arg0 main_v0 (rfl : (.f32 : EltTy) = .f32) shapeCasts_S1048576x16_S16777216
abbrev opA : HloOp τ sig (Elt F) := StableHlo.reshape main_arg1 main_v1 (rfl : (.f32 : EltTy) = .f32) shapeCasts_S1048576x32_S33554432

theorem held_arrays (d : Dev nD) (X : Valuation τ sig (Elt F)) :
    (held (SparseCore.T d) arrays X : sProp 𝕄) = iprop((z2Loc d ↦{fullShare} X z2) ∗ (a2Loc d ↦{fullShare} X a2) ∗ (zLoc d ↦{fullShare} X z1)
      ∗ (aLoc d ↦{fullShare} X a1) ∗ oLoc d ↦{fullShare} X o1) := by
  unfold held arrays
  rw [SparseCore.bigSep_insert' (by decide), SparseCore.bigSep_insert' (by decide), SparseCore.bigSep_insert' (by decide),
    SparseCore.bigSep_insert' (by decide), bigSep_singleton]

theorem unscoped_eq (d : Dev nD) (X : (b : Ref sig .tc) → Buf (Elt F) ((d.tc : Thread nD τ).loc b)) :
    (unscopedBufs d X : sProp 𝕄) = iprop((z2Loc d ↦{fullShare} X main_arg0) ∗ (a2Loc d ↦{fullShare} X main_arg1) ∗ (zLoc d ↦{fullShare} X main_v0)
      ∗ (aLoc d ↦{fullShare} X main_v1) ∗ oLoc d ↦{fullShare} X main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- What the arrays hold at the launch, and after the flattenings. -/
def X0 (d : Dev nD) : Valuation τ sig (Elt F) := fun b => m (d, b)
def X1 (d : Dev nD) : Valuation τ sig (Elt F) := (opZ (F := F)).result (X0 m d)
def X2 (d : Dev nD) : Valuation τ sig (Elt F) := (opA (F := F)).result (X1 m d)

theorem X1_z2 (d : Dev nD) : X1 m d z2 = m (z2Loc d) := StableHlo.reshape_result_ne _ _ _ _ _ _ _ (by decide)
theorem X1_a2 (d : Dev nD) : X1 m d a2 = m (a2Loc d) := StableHlo.reshape_result_ne _ _ _ _ _ _ _ (by decide)
theorem X1_o1 (d : Dev nD) : X1 m d o1 = m (oLoc d) := StableHlo.reshape_result_ne _ _ _ _ _ _ _ (by decide)
theorem X1_z1 (d : Dev nD) : X1 m d z1 = zFlat m d := StableHlo.reshape_result _ _ _ _ _ _ _
theorem X2_z2 (d : Dev nD) : X2 m d z2 = m (z2Loc d) := (StableHlo.reshape_result_ne _ _ _ _ _ _ _ (by decide)).trans (X1_z2 m d)
theorem X2_a2 (d : Dev nD) : X2 m d a2 = m (a2Loc d) := (StableHlo.reshape_result_ne _ _ _ _ _ _ _ (by decide)).trans (X1_a2 m d)
theorem X2_o1 (d : Dev nD) : X2 m d o1 = m (oLoc d) := (StableHlo.reshape_result_ne _ _ _ _ _ _ _ (by decide)).trans (X1_o1 m d)
theorem X2_z1 (d : Dev nD) : X2 m d z1 = zFlat m d := (StableHlo.reshape_result_ne _ _ _ _ _ _ _ (by decide)).trans (X1_z1 m d)
theorem X2_a1 (d : Dev nD) : X2 m d a1 = aFlat m d := by
  refine (StableHlo.reshape_result _ _ _ _ _ _ _).trans ?_
  show shapeCast S33554432 (X1 m d a2 : S1048576x32.Idx → F .f32) shapeCasts_S1048576x32_S33554432 = _
  rw [X1_a2]
  rfl

theorem unscoped_held (d : Dev nD) : (unscopedBufs d (fun b => m ((SparseCore.T d).loc b)) : sProp 𝕄) = held (SparseCore.T d) arrays (X0 m d) := by
  rw [unscoped_eq, held_arrays]; rfl

theorem opZ_sub : (opZ (F := F)).bufs ⊆ arrays := show ({z2, z1} : Finset (DevRef τ sig)) ⊆ arrays by decide
theorem opA_sub : (opA (F := F)).bufs ⊆ arrays := show ({a2, a1} : Finset (DevRef τ sig)) ⊆ arrays by decide

theorem st_eq (d : Dev nD) : (bigSep Finset.univ fun c : Fin ((K (F := F)).nCore 0) => (P m).st 0 d c)
    = iprop((zLoc d ↦{fullShare} zFlat m d) ∗ (aLoc d ↦{fullShare} aFlat m d) ∗ oLoc d ↦{fullShare} m (oLoc d)) := forCores_eq m d (m (oLoc d))
theorem dn_eq (d : Dev nD) : (bigSep Finset.univ fun c : Fin ((K (F := F)).nCore 0) => (P m).dn 0 d c)
    = iprop((zLoc d ↦{fullShare} zFlat m d) ∗ (aLoc d ↦{fullShare} aFlat m d) ∗ oLoc d ↦{fullShare} result m d) := forCores_eq m d (result m d)

/-- What the run leaves: the arguments as they were and the result in place. -/
abbrev FIN (d : Dev nD) : sProp 𝕄 :=
  iprop((z2Loc d ↦{fullShare} m (z2Loc d)) ∗ (a2Loc d ↦{fullShare} m (a2Loc d)) ∗ oLoc d ↦{fullShare} result m d)

/-- The TensorCore's program: flatten, flatten, call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opZ) (S := arrays) opZ_sub (V := X0 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opA) (S := arrays) opA_sub (V := X1 m d)) $$ [Hb Hheld]
  · isplitl [Hb]; · iexact Hb
    iexact Hheld
  iintro ⟨Hb, Hheld⟩
  rw [wp_ret]; imodintro
  ihave Hh := (show held (SparseCore.T d) arrays ((opA (F := F)).result (X1 m d)) ⊢ (iprop((z2Loc d ↦{fullShare} m (z2Loc d)) ∗ (a2Loc d ↦{fullShare} m (a2Loc d)) ∗ (zLoc d ↦{fullShare} zFlat m d)
      ∗ (aLoc d ↦{fullShare} aFlat m d) ∗ oLoc d ↦{fullShare} m (oLoc d)) : sProp 𝕄) from by
    show held (SparseCore.T d) arrays (X2 m d) ⊢ _
    rw [held_arrays, X2_z2, X2_a2, X2_z1, X2_a1, X2_o1]) $$ Hheld
  icases Hh with ⟨Hz2, Ha2, Hz, Ha, Ho⟩
  iapply ((K (F := F)).wp_run (D (F := F)) 𝒱 (EH := EH) (P := P m) κ d 0) $$ [Hst Hz Ha Ho Hz2 Ha2 Hb Hts]
  isplitr; · iexact Hctx
  isplitl [Hst]; · iexact Hst
  isplitl [Hz Ha Ho]
  · rw [st_eq]
    isplitl [Hz]; · iexact Hz
    isplitl [Ha]; · iexact Ha
    iexact Ho
  iintro ⟨Hst, Hdn⟩
  ihave Hdn' := (Entails.of_eq (dn_eq m d)) $$ Hdn
  icases Hdn' with ⟨-, -, Ho⟩
  imodintro
  isplitl [Hst]; · iexact Hst
  isplitl [Hz2 Ha2 Ho]
  · isplitl [Hz2]; · iexact Hz2
    isplitl [Ha2]; · iexact Ha2
    iexact Ho
  isplitl [Hb] <;> iassumption

/-- What the final memory holds on a device. -/
def fq (d : Dev nD) (s' : Phys nD τ sig (Elt F)) : Prop :=
  s'.mem.mem (z2Loc d) = m (z2Loc d) ∧ s'.mem.mem (a2Loc d) = m (a2Loc d) ∧ s'.mem.mem (oLoc d) = result m d

/-- A buffer held whole is what the memory holds there. -/
theorem agree (d : Dev nD) (s' : Phys nD τ sig (Elt F)) (ℓ : Loc nD τ sig) (f : Buf (Elt F) ℓ) (R : sProp 𝕄) :
    iprop((ℓ ↦{fullShare} f) ∗ R ∗ SI s') ⊢ (iprop(⌜s'.mem.mem ℓ = f⌝ ∗ R ∗ SI s') : sProp 𝕄) := by
  iintro ⟨Hf, HR, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  isplitl [HR] <;> iassumption

theorem hfin (d : Dev nD) (s' : Phys nD τ sig (Elt F)) : iprop(FIN m d ∗ SI s') ⊢ (⌜fq m d s'⌝ : sProp 𝕄) := by
  iintro ⟨⟨Hz, Ha, Ho⟩, HSI⟩
  ihave H := (agree d s' (z2Loc d) (m (z2Loc d)) iprop((a2Loc d ↦{fullShare} m (a2Loc d)) ∗ oLoc d ↦{fullShare} result m d)) $$ [Hz Ha Ho HSI]
  · isplitl [Hz]; · iexact Hz
    isplitr [HSI]
    · isplitl [Ha] <;> iassumption
    iexact HSI
  icases H with ⟨%h1, ⟨Ha, Ho⟩, HSI⟩
  ihave H := (agree d s' (a2Loc d) (m (a2Loc d)) (oLoc d ↦{fullShare} result m d)) $$ [Ha Ho HSI]
  · isplitl [Ha]; · iexact Ha
    isplitl [Ho] <;> iassumption
  icases H with ⟨%h2, Ho, HSI⟩
  ihave H := (agree d s' (oLoc d) (result m d) iprop(emp)) $$ [Ho HSI]
  · isplitl [Ho]; · iexact Ho
    isplitr
    · iempintro
    iexact HSI
  icases H with ⟨%h3, -, -⟩
  ipureintro
  exact ⟨h1, h2, h3⟩

/-! ## The run -/

/-- What every run ends with: the arguments unchanged, the result in place, every semaphore at zero. -/
def Ends : PUnit × MemSt nD τ sig (Elt F) → Prop := fun r =>
  (∀ d : Dev nD, r.2.mem (z2Loc d) = m (z2Loc d) ∧ r.2.mem (a2Loc d) = m (a2Loc d) ∧ r.2.mem (oLoc d) = result m d) ∧ r.2.sem = fun _ => 0

/-- The kernel's program runs to its end, and so ends. -/
theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Launch
-- ==== Proof.HostReads.lean ====
/-
  How the host's operations of the plain program read at one index: a matrix laid out flat, a column cut out of a matrix,
  two columns put side by side, and a scatter of scalars into a matrix by pairs of index words.
-/
module

public import Idealize.ShloMosaic.Lib.Routing.OpsSet
public import Idealize.ShloMosaic.Lib.Pointwise.Reduce
public import Idealize.ShloMosaic.Lib.Pointwise.SelectCore
public import Idealize.ShloMosaic.Lib.Pointwise.Reshape
public import Idealize.ShloMosaic.Lib.Pointwise.ShapeOpsCore

@[expose] public section

namespace Cert.Proof.HostReads

open Idealize.ShloMosaic hiding ix1 ix2 eq_ix1 eq_ix2
open Idealize.ShloMosaic.ValueIdx
open Idealize.ShloMosaic.Routing (shape1 shape2 resultIdx?_ix2)

variable {α : Type} {R C N A w : ℕ}

/-- An `R × C` matrix laid out flat holds element `(r, c)` at `C · r + c`. -/
theorem flat_read (x : (shape2 R C).Idx → α) (h : (shape2 R C).ShapeCasts (shape1 N)) (p : Fin N) (r : Fin R) (c : Fin C)
    (e : p.val = C * r.val + c.val) : shapeCast (shape1 N) x h (ix1 p) = x (ix2 r c) := by
  show x (Shape.reshapeEquiv _ (ix1 p)) = _
  rw [Shape.reshapeEquiv_eq_of_rowMajor (y := ix2 r c)]
  rw [Shape.rowMajor_val_two, Shape.rowMajor_val_one]
  show r.val * C + c.val = p.val
  rw [e, Nat.mul_comm]

/-- Column 0 of a matrix, cut out and laid out flat, holds the matrix's element `(r, 0)` at `r`. -/
theorem column_read (x : (shape2 R C).Idx → α) (hs : (shape2 R C).Slices ![0, 0] (shape2 R 1)) (h : (shape2 R 1).ShapeCasts (shape1 R)) (r : Fin R) (hC : 0 < C) :
    shapeCast (shape1 R) (extractStridedSlice (shape2 R 1) ![0, 0] x hs) h (ix1 r) = x (ix2 r ⟨0, hC⟩) := by
  rw [flat_read _ h r r (0 : Fin 1) (by simp)]
  rw [Pointwise.extractStridedSlice_apply]
  congr 1
  funext b
  apply Fin.ext
  match b with
  | ⟨0, _⟩ => exact Nat.zero_add _
  | ⟨1, _⟩ => rfl

/-- A vector stood up as a column holds its entry `r` at `(r, 0)`. -/
theorem stand_read (x : (shape1 R).Idx → α) (h : (shape1 R).BroadcastsInDim (shape2 R 1) (![0] : Fin 1 → Fin 2)) (r : Fin R) (q : Fin 1) :
    broadcastInDim (shape2 R 1) (![0] : Fin 1 → Fin 2) h x (ix2 r q) = x (ix1 r) := by
  rw [Pointwise.broadcastInDim_apply]
  congr 1
  funext b
  apply Fin.ext
  match b with
  | ⟨0, _⟩ =>
    rw [Shape.Idx.norm_def]
    split
    · next h1 =>
      have hR : R = 1 := h1
      have := r.isLt
      show 0 = r.val
      omega
    · rfl

/-- Two vectors stood up and put side by side: the first's entry `r` at `(r, 0)`. -/
theorem pair_read_fst (x y : (shape1 R).Idx → α) (h : (shape1 R).BroadcastsInDim (shape2 R 1) (![0] : Fin 1 → Fin 2))
    (hc : Shape.Concatenates [shape2 R 1, shape2 R 1] (shape2 R 2) 1) (r : Fin R) :
    concatenate (shape2 R 2) 1 [⟨shape2 R 1, broadcastInDim (shape2 R 1) (![0] : Fin 1 → Fin 2) h x⟩,
        ⟨shape2 R 1, broadcastInDim (shape2 R 1) (![0] : Fin 1 → Fin 2) h y⟩] hc (ix2 r (0 : Fin 2)) = x (ix1 r) := by
  refine (concatenate_pair_apply ..).trans ((dif_pos (show (0 : ℕ) < 1 from Nat.one_pos)).trans ?_)
  rw [← stand_read x h r 0]
  congr 1
  funext b
  apply Fin.ext
  match b with
  | ⟨0, _⟩ => rfl
  | ⟨1, _⟩ => rfl

/-- Two vectors stood up and put side by side: the second's entry `r` at `(r, 1)`. -/
theorem pair_read_snd (x y : (shape1 R).Idx → α) (h : (shape1 R).BroadcastsInDim (shape2 R 1) (![0] : Fin 1 → Fin 2))
    (hc : Shape.Concatenates [shape2 R 1, shape2 R 1] (shape2 R 2) 1) (r : Fin R) :
    concatenate (shape2 R 2) 1 [⟨shape2 R 1, broadcastInDim (shape2 R 1) (![0] : Fin 1 → Fin 2) h x⟩,
        ⟨shape2 R 1, broadcastInDim (shape2 R 1) (![0] : Fin 1 → Fin 2) h y⟩] hc (ix2 r (1 : Fin 2)) = y (ix1 r) := by
  refine (concatenate_pair_apply ..).trans ((dif_neg (show ¬ (1 : ℕ) < 1 from Nat.lt_irrefl 1)).trans ?_)
  rw [← stand_read y h r 0]
  congr 1
  funext b
  apply Fin.ext
  match b with
  | ⟨0, _⟩ => rfl
  | ⟨1, _⟩ => rfl

/-- Update `k` of a scatter of `A` scalars into an `R × C` matrix, each with a pair of index words, lands at `(r, c)` exactly
    when its two words, read signed, are `r` and `c`. -/
theorem lands_iff (d : ScatterDims (shape2 R C) (shape2 A 2) (shape1 A)) (hiw : d.insertedWindowDims = [0, 1])
    (hsd : d.scatterDimsToOperandDims = [0, 1]) (hiv : d.indexVectorDim = 1) (idx : IVec (shape2 A 2) w) (k : Fin A) (r : Fin R) (c : Fin C) :
    d.resultIdx? (ix1 k) idx = some (ix2 r c) ↔ (idx (ix2 k 0)).toInt = r.val ∧ (idx (ix2 k 1)).toInt = c.val := by
  have hmem : ∀ q : Fin 2, q ∈ d.scatterDimsToOperandDims := by
    intro q
    rw [hsd]
    fin_cases q <;> simp
  have hnone : d.updateWindowDims = [] := by
    apply List.eq_nil_of_length_eq_zero
    rw [d.window_length]
    show ((shape2 R C).kept d.insertedWindowDims).length = 0
    rw [hiw]
    rfl
  have hwin : ∀ q : Fin 2, d.window (ix1 k) q = 0 := by
    intro q
    unfold ScatterDims.window
    refine dif_neg fun h => ?_
    refine (of_decide_eq_true (List.mem_filter.1 h).2) ?_
    rw [hiw]
    fin_cases q <;> simp
  have hpick : ∀ (l : List (Fin 1)) (n : ℕ) (h : n < l.length), l = [0] → l[n]'h = 0 := by
    intro l n h hl
    subst hl
    exact Subsingleton.elim _ _
  have hup : d.uScatter = [0] := by
    show (shape1 A).kept d.updateWindowDims = _
    rw [hnone]
    rfl
  have hat : ∀ q : Fin 2, d.siIdx (ix1 k) ⟨d.scatterDimsToOperandDims.idxOf q, List.idxOf_lt_length_iff.2 (hmem q)⟩ = ix2 k q := by
    intro q
    funext b
    apply Fin.ext
    match b with
    | ⟨0, _⟩ =>
      unfold ScatterDims.siIdx
      rw [dif_neg (by rw [hiv]; exact Nat.zero_ne_one)]
      unfold ScatterDims.siCoord
      simp only [Fin.val_cast]
      rw [hpick _ _ _ hup]
    | ⟨1, _⟩ =>
      unfold ScatterDims.siIdx
      rw [dif_pos (by rw [hiv])]
      show List.idxOf q d.scatterDimsToOperandDims = q.val
      rw [hsd]
      fin_cases q <;> rfl
  have hst : ∀ q : Fin 2, d.start (ix1 k) idx q = (idx (ix2 k q)).toInt := by
    intro q
    unfold ScatterDims.start
    rw [dif_pos (hmem q), hat]
  rw [resultIdx?_ix2, hst, hst, hwin, hwin]
  simp only [Nat.cast_zero, add_zero]

/-- One scalar `v` scattered into each row of a matrix: update `k` has the words `k` and `col k`. Element `(r, c)` reads
    `v` where `c` is `col r`, else what the matrix held. -/
theorem oneHot_read (d : ScatterDims (shape2 R C) (shape2 R 2) (shape1 R)) (hiw : d.insertedWindowDims = [0, 1])
    (hsd : d.scatterDimsToOperandDims = [0, 1]) (hiv : d.indexVectorDim = 1) (x0 : (shape2 R C).Idx → α) (idx : IVec (shape2 R 2) w)
    (upd : (shape1 R).Idx → α) (v : α) (hv : ∀ k, upd k = v) (col : Fin R → ℕ)
    (h0 : ∀ k : Fin R, (idx (ix2 k 0)).toInt = k.val) (h1 : ∀ k : Fin R, (idx (ix2 k 1)).toInt = col k) (r : Fin R) (c : Fin C) :
    Host.scatter d (fun _ b => b) x0 idx upd (ix2 r c) = if c.val = col r then v else x0 (ix2 r c) := by
  split
  · next e =>
    refine Routing.scatter_set_hit d x0 idx upd (ix2 r c) v (fun k _ => hv k) (ix1 r) ?_
    rw [lands_iff d hiw hsd hiv, h0, h1, e]
    exact ⟨rfl, rfl⟩
  · next e =>
    refine Routing.scatter_set_miss d x0 idx upd (ix2 r c) fun k hk => e ?_
    obtain ⟨q, rfl⟩ : ∃ q : Fin R, k = ix1 q := ⟨k 0, eq_ix1 k⟩
    rw [lands_iff d hiw hsd hiv, h0, h1] at hk
    have hr : q = r := Fin.ext (Int.ofNat_inj.mp hk.1)
    rw [← hr]
    exact (Int.ofNat_inj.mp hk.2).symm

/-- Over the extended reals, the host's sum of a row of products, from a start `c`. -/
theorem rowSum_read {u : Shape} (h : (shape2 R C).ReducesTo [1] (shape1 R)) (hu : 0 < u.numel) (x y : FVec Ideal (shape2 R C) .f32) (c : FVec Ideal u .f32)
    (z : EReal) (hc : ∀ i, c i = z) (r : Fin R) :
    (Host.reduceAdd (mulf x y) c h hu (ix1 r) : EReal) = z + ∑ k : Fin C, (x (ix2 r k) : EReal) * (y (ix2 r k) : EReal) := by
  have e : (Host.reduceAdd (mulf x y) c h hu (ix1 r) : EReal) = Ideal.hostReduceAdd h (mulf x y) (c (Shape.Idx.first hu)) (ix1 r) := rfl
  rw [e, hc]
  exact Ideal.hostReduceAdd_r2_a1 h (mulf x y) z (ix1 r)

/-- A row's sum of products is the one product that is not by zero. -/
theorem sum_oneHot (x y : Fin N → EReal) (q : Fin N) (v : EReal) (h : ∀ k, y k = if k.val = q.val then v else 0) :
    ∑ k, x k * y k = x q * v := by
  rw [Finset.sum_eq_single q]
  · rw [h, if_pos rfl]
  · intro k _ hk
    rw [h, if_neg fun e => hk (Fin.ext e), mul_zero]
  · intro hq
    exact absurd (Finset.mem_univ q) hq

/-- The row's sum where the second factor is `v` at column `q` and zero elsewhere, from zero. -/
theorem rowSum_oneHot {u : Shape} (h : (shape2 R C).ReducesTo [1] (shape1 R)) (hu : 0 < u.numel) (x y : FVec Ideal (shape2 R C) .f32) (c : FVec Ideal u .f32)
    (hc : ∀ i, (c i : EReal) = 0) (r : Fin R) (q : Fin C) (v : EReal) (hy : ∀ k : Fin C, (y (ix2 r k) : EReal) = if k.val = q.val then v else 0) :
    (Host.reduceAdd (mulf x y) c h hu (ix1 r) : EReal) = (x (ix2 r q) : EReal) * v := by
  rw [rowSum_read h hu x y c 0 hc r, zero_add]
  exact sum_oneHot (fun k => x (ix2 r k)) (fun k => y (ix2 r k)) q v hy

end Cert.Proof.HostReads
-- ==== Proof.Reference.lean ====
/-
  Over the extended reals the plain program's result, read at one row: the picked element of `a`, scaled. The row of the
  scattered matrix is the scale at the picked column and zero elsewhere, so the row's sum of products is one product. The
  kernel's result, read at the same row, is the same product.
-/
module

public import proofs.«01_k».proof.Proof.HostReads
public import proofs.«01_k».proof.Proof.Launch
public import proofs.«01_k».proof.Proof.Gen.ReferenceIdeal
public import Idealize.ShloMosaic.Lib.Pointwise.Tactic

@[expose] public section

noncomputable section

namespace Cert.Proof.Reference

open Cert.ReferenceIdeal Cert.ReferenceIdeal.Gen
open Cert.Proof.Words Cert.Proof.HostReads
open Idealize.ShloMosaic hiding ix1 ix2 eq_ix1 eq_ix2
open Idealize.ShloMosaic.ValueIdx
open Idealize.ShloMosaic.Routing (shape1 shape2)

/-! ## The picked element -/

/-- Row `r`'s picked column. -/
def col (z : S1048576x16.Idx → Ideal .f32) (r : Fin 1048576) : Fin 32 := ⟨(colW (z (ix2 r 0))).toNat, colW_lt _⟩

/-- The problem's result at row `r`: the picked element of `a`, scaled. -/
def picked (z : S1048576x16.Idx → Ideal .f32) (a : S1048576x32.Idx → Ideal .f32) (r : Fin 1048576) : Ideal .f32 :=
  FloatOps.mulf (a (ix2 r (col z r))) scale

/-! ## The plain program -/

/-- The columns' words as the plain program computes them. -/
def colV (z : S1048576x16.Idx → Ideal .f32) : IVec S1048576 32 :=
  minsi (broadcastInDim S1048576 ![] bcast_S_S1048576 (id (constantI S_ 32 31#32)))
    (maxsi (broadcastInDim S1048576 ![] bcast_S_S1048576 (id (constantI S_ 32 0#32)))
      (fptosi 32 (mulf (shapeCast S1048576 (extractStridedSlice S1048576x1 ![0, 0] z slices_S1048576x16_S1048576x1_0_0) shapeCasts_S1048576x1_S1048576)
        (broadcastInDim S1048576 ![] bcast_S_S1048576 (constant S_ .f32 0x42000000#32)))))

/-- A negative index counts from the end of its axis, of `n` entries. -/
def wrapV (n : BitVec 32) (x : IVec S1048576 32) : IVec S1048576 32 :=
  select (cmpi .slt x (broadcastInDim S1048576 ![] bcast_S_S1048576 (constantI S_ 32 0#32)))
    (addi x (broadcastInDim S1048576 ![] bcast_S_S1048576 (constantI S_ 32 n))) x

/-- The pairs of index words of the scatter. -/
def pairV (z : S1048576x16.Idx → Ideal .f32) : IVec S1048576x2 32 :=
  concatenate S1048576x2 1
    [⟨S1048576x1, broadcastInDim S1048576x1 ![0] bcast_S1048576_S1048576x1_0 (wrapV 1048576#32 (iotaInDim S1048576 32 0))⟩,
     ⟨S1048576x1, broadcastInDim S1048576x1 ![0] bcast_S1048576_S1048576x1_0 (wrapV 32#32 (colV z))⟩]
    concatenates_S1048576x1_S1048576x1_S1048576x2_d1

/-- The matrix that holds the scale at each row's picked column. -/
def maskV (z : S1048576x16.Idx → Ideal .f32) : FVec Ideal S1048576x32 .f32 :=
  Host.scatter scatter_S1048576x32_S1048576x2_S1048576_n_01_01_1 (fun _ b => b)
    (broadcastInDim S1048576x32 ![] bcast_S_S1048576x32 (constant S_ .f32 0x00000000#32)) (pairV z)
    (broadcastInDim S1048576 ![] bcast_S_S1048576 (constant S_ .f32 0x3F7FBE77#32))

/-- The plain program's result. -/
def resultV (z : S1048576x16.Idx → Ideal .f32) (a : S1048576x32.Idx → Ideal .f32) : FVec Ideal S1048576 .f32 :=
  Host.reduceAdd (mulf (a : FVec Ideal S1048576x32 .f32) (maskV z)) (constant S_ .f32 0x00000000#32) reducesTo_S1048576x32_S1048576_d1 h_S_

/-- The column's word at row `r`. -/
theorem colV_apply (z : S1048576x16.Idx → Ideal .f32) (r : Fin 1048576) : colV z (ix1 r) = colW (z (ix2 r 0)) := by
  have e := column_read (R := 1048576) (C := 16) z slices_S1048576x16_S1048576x1_0_0 shapeCasts_S1048576x1_S1048576 r (by decide)
  unfold colW
  rw [show z (ix2 r 0) = _ from e.symm]
  rfl

/-- An index that is not negative stays as it is. -/
theorem wrapV_apply (n : BitVec 32) (x : IVec S1048576 32) (i : S1048576.Idx) (h : (x i).toNat < 2 ^ 31) : wrapV n x i = x i :=
  Routing.wrap_of_lt (x i) _ h

theorem pairV_row (z : S1048576x16.Idx → Ideal .f32) (r : Fin 1048576) : ((pairV z) (ix2 r 0)).toInt = r.val := by
  have e : pairV z (ix2 r 0) = wrapV 1048576#32 (iotaInDim S1048576 32 0) (ix1 r) :=
    pair_read_fst (R := 1048576) _ _ bcast_S1048576_S1048576x1_0 concatenates_S1048576x1_S1048576x1_S1048576x2_d1 r
  have hi : (iotaInDim S1048576 32 0 : IVec S1048576 32) (ix1 r) = BitVec.ofNat 32 r.val := rfl
  have hr := r.isLt
  have hn : (BitVec.ofNat 32 r.val).toNat = r.val := by rw [BitVec.toNat_ofNat]; omega
  rw [e, wrapV_apply _ _ _ (by rw [hi, hn]; omega), hi, BitVec.toInt_eq_toNat_of_lt (by rw [hn]; omega), hn]

theorem pairV_col (z : S1048576x16.Idx → Ideal .f32) (r : Fin 1048576) : ((pairV z) (ix2 r 1)).toInt = (col z r).val := by
  have e : pairV z (ix2 r 1) = wrapV 32#32 (colV z) (ix1 r) :=
    pair_read_snd (R := 1048576) _ _ bcast_S1048576_S1048576x1_0 concatenates_S1048576x1_S1048576x1_S1048576x2_d1 r
  have hc := colW_lt (z (ix2 r 0))
  rw [e, wrapV_apply _ _ _ (by rw [colV_apply]; omega), colV_apply, BitVec.toInt_eq_toNat_of_lt (by omega)]
  rfl

/-- The scattered matrix holds the scale at the picked column, zero elsewhere. -/
theorem maskV_apply (z : S1048576x16.Idx → Ideal .f32) (r : Fin 1048576) (c : Fin 32) :
    maskV z (ix2 r c) = if c.val = (col z r).val then (scale : Ideal .f32) else Ideal.ofBits .f32 0x00000000#32 :=
  oneHot_read (R := 1048576) (C := 32) scatter_S1048576x32_S1048576x2_S1048576_n_01_01_1 rfl rfl rfl _ (pairV z) _ scale (fun _ => rfl)
    (fun k => (col z k).val) (pairV_row z) (pairV_col z) r c

theorem zero_bits : Ideal.ofBits .f32 0x00000000#32 = (0 : EReal) := Ideal.ofBits_zero .f32

/-- The plain program's result at row `r`. -/
theorem resultV_apply (z : S1048576x16.Idx → Ideal .f32) (a : S1048576x32.Idx → Ideal .f32) (r : Fin 1048576) :
    resultV z a (ix1 r) = picked z a r :=
  rowSum_oneHot (R := 1048576) (C := 32) reducesTo_S1048576x32_S1048576_d1 h_S_ a (maskV z) _ (fun _ => zero_bits) r (col z r) (scale (F := Ideal))
    fun k => by rw [← zero_bits]; exact maskV_apply z r k

/-! ## The kernel -/

/-- The kernel's result at row `r`. -/
theorem outA_apply (z : S1048576x16.Idx → Ideal .f32) (a : S1048576x32.Idx → Ideal .f32) (r : Fin 1048576) :
    Tile.outA (F := Ideal) (shapeCast Cert.KernelIdeal.S16777216 z Cert.KernelIdeal.Gen.shapeCasts_S1048576x16_S16777216)
      (shapeCast Cert.KernelIdeal.S33554432 a Cert.KernelIdeal.Gen.shapeCasts_S1048576x32_S33554432) (ix1 r) = picked z a r := by
  have hr := r.isLt
  have hz : zRow (shapeCast Cert.KernelIdeal.S16777216 z Cert.KernelIdeal.Gen.shapeCasts_S1048576x16_S16777216) r.val = z (ix2 r 0) := by
    refine flat_read (R := 1048576) (C := 16) z _ _ r 0 ?_
    show 16 * r.val % 16777216 = 16 * r.val + 0
    omega
  have ha : aAt (shapeCast Cert.KernelIdeal.S33554432 a Cert.KernelIdeal.Gen.shapeCasts_S1048576x32_S33554432) (flatW r.val (z (ix2 r 0))) = a (ix2 r (col z r)) := by
    refine flat_read (R := 1048576) (C := 32) a _ _ r (col z r) ?_
    have hc := colW_lt (z (ix2 r 0))
    show (flatW r.val (z (ix2 r 0))).toNat % 33554432 = 32 * r.val + (colW (z (ix2 r 0))).toNat
    rw [flatW_toNat hr]
    omega
  show FloatOps.mulf (aAt _ (flatW r.val (zRow _ r.val))) scale = _
  rw [hz, ha]
  rfl

/-- Over the extended reals the kernel and the plain program compute the same array. -/
theorem outA_eq_resultV (z : S1048576x16.Idx → Ideal .f32) (a : S1048576x32.Idx → Ideal .f32) :
    Tile.outA (F := Ideal) (shapeCast Cert.KernelIdeal.S16777216 z Cert.KernelIdeal.Gen.shapeCasts_S1048576x16_S16777216)
      (shapeCast Cert.KernelIdeal.S33554432 a Cert.KernelIdeal.Gen.shapeCasts_S1048576x32_S33554432) = resultV z a := by
  funext i
  obtain ⟨r, rfl⟩ : ∃ r : Fin 1048576, i = ix1 r := ⟨i 0, eq_ix1 i⟩
  rw [outA_apply, resultV_apply]

end Cert.Proof.Reference
-- ==== Proof.lean ====
/-
  The claims: the kernel, at its machine's own words and over the extended reals, and the reference, over the extended reals,
  each run to their end and leave their arguments unchanged and every semaphore at zero; the kernel's two readings are the same
  text; and over the extended reals kernel and reference end with the same result.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel at its machine's own words: it runs to its end, its arguments unchanged and every semaphore at zero. -/
theorem frame_kernel : Cert.quiescent_Kernel := fun m ρ _ =>
  (θ_run (Cert.KernelIdeal.defs (F := Bits)) _ _).mono (fun _ h => ⟨fun c => ⟨(h.1 c).1, (h.1 c).2.1⟩, h.2⟩) (Launch.run_main (F := Bits) m ρ)

/-- The kernel over the extended reals: it runs to its end, its arguments unchanged and every semaphore at zero. -/
theorem frame_kernelIdeal : Cert.quiescent_KernelIdeal := fun m ρ _ =>
  (θ_run (Cert.KernelIdeal.defs (F := Ideal)) _ _).mono (fun _ h => ⟨fun c => ⟨(h.1 c).1, (h.1 c).2.1⟩, h.2⟩) (Launch.run_main (F := Ideal) m ρ)

/-- The reference over the extended reals: it runs to its end, its arguments unchanged and every semaphore at zero. -/
theorem frame_reference : Cert.quiescent_ReferenceIdeal := fun m ρ _ =>
  (θ_run (Cert.ReferenceIdeal.defs (F := Ideal)) _ _).mono (fun r h => ⟨fun c => ⟨(h c).2.1, (h c).2.2⟩, sem_eq_zero_of_no_sems (by decide) r.2⟩)
    (Cert.ReferenceIdeal.Value.run (F := Ideal) m ρ)

/-- The reference ends with the plain program's result of its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v24)
            = Reference.resultV (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) := by
  have h := Cert.ReferenceIdeal.Value.run (F := Ideal) m ρ
  unfold Reference.resultV Reference.maskV Reference.pairV Reference.wrapV Reference.colV
  exact h

/-- Over the extended reals, from memories that agree on the arguments, kernel and reference end with equal results and
    unchanged arguments. -/
theorem algebraic : Cert.algebraic_KernelIdeal_ReferenceIdeal := by
  intro m ρ m' ρ' _ hm
  refine ⟨fun c => Launch.result (F := Ideal) m c, ?_, ?_⟩
  · exact (θ_run (Cert.KernelIdeal.defs (F := Ideal)) _ _).mono (fun _ h c => ⟨(h.1 c).2.2, (h.1 c).1, (h.1 c).2.1⟩) (Launch.run_main (F := Ideal) m ρ)
  · refine (θ_run (Cert.ReferenceIdeal.defs (F := Ideal)) _ _).mono (fun _ h c => ⟨(h c).1.trans ?_, (h c).2.1, (h c).2.2⟩) (run_reference m' ρ')
    rw [(hm c).1, (hm c).2]
    exact (Reference.outA_eq_resultV _ _).symm

/-- All of the certificate's claims. -/
theorem claim : Cert.Claim :=
  ⟨Cert.Kernel.Gen.facts, Cert.KernelIdeal.Gen.facts, Cert.ReferenceIdeal.Gen.facts, frame_kernel, frame_kernelIdeal, frame_reference, trivial, algebraic⟩

end Cert.Proof

end
